-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_of_four [hPre_two_of_four : Cert.Pre_two_of_four.Facts] (m : (ℓ : Loc Cert.KernelIdeal.nD Cert.KernelIdeal.τ Cert.KernelIdeal.sig) → Buf (Elt Ideal) ℓ) : Prop :=
  ∀ c : Dev Cert.KernelIdeal.nD,
    (Cert.Pre_two_of_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_of_four [hPre_two_of_four : Cert.Pre_two_of_four.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_of_four.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_of_four [hKernelIdeal : Cert.KernelIdeal.Facts] [hPre_two_of_four : Cert.Pre_two_of_four.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_of_four m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_of_four [hReferenceIdeal : Cert.ReferenceIdeal.Facts] [hPre_two_of_four : Cert.Pre_two_of_four.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_of_four m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_two_of_four [hKernelIdeal : Cert.KernelIdeal.Facts] [hReferenceIdeal : Cert.ReferenceIdeal.Facts] [hPre_two_of_four : Cert.Pre_two_of_four.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_of_four m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43_0) = v0 c
          ∧ r.2.mem ((c.tc : Thread Cert.ReferenceIdeal.nD Cert.ReferenceIdeal.τ).loc Cert.ReferenceIdeal.main_v43_1) = v1 c
          ∧ r.2.mem ((c.tc : Thread Cert.ReferenceIdeal.nD Cert.ReferenceIdeal.τ).loc Cert.ReferenceIdeal.main_v43_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_of_four : Cert.Pre_two_of_four.Facts),
    quiescent_Kernel (hKernel := hKernel)
    ∧ quiescent_KernelIdeal (hKernelIdeal := hKernelIdeal)
    ∧ quiescent_KernelIdeal_pre_two_of_four (hKernelIdeal := hKernelIdeal) (hPre_two_of_four := hPre_two_of_four)
    ∧ quiescent_ReferenceIdeal (hReferenceIdeal := hReferenceIdeal)
    ∧ quiescent_ReferenceIdeal_pre_two_of_four (hReferenceIdeal := hReferenceIdeal) (hPre_two_of_four := hPre_two_of_four)
    ∧ preserves_Kernel_KernelIdeal
    ∧ algebraic_KernelIdeal_ReferenceIdeal_pre_two_of_four (hKernelIdeal := hKernelIdeal) (hReferenceIdeal := hReferenceIdeal) (hPre_two_of_four := hPre_two_of_four)
-- ==== Pre_two_of_four.lean ====
abbrev S4x256x2048 : Shape := ⟨3, ![4, 256, 2048]⟩
abbrev S2x5632x1024 : Shape := ⟨3, ![2, 5632, 1024]⟩
abbrev S2x5632x64 : Shape := ⟨3, ![2, 5632, 64]⟩
abbrev S2x5632 : Shape := ⟨2, ![2, 5632]⟩
abbrev S8 : Shape := ⟨1, ![8]⟩
abbrev S2x5632x64x1 : Shape := ⟨4, ![2, 5632, 64, 1]⟩
abbrev S_ : Shape := ⟨0, ![]⟩
abbrev S1x1x1x8 : Shape := ⟨4, ![1, 1, 1, 8]⟩
abbrev S2x5632x64x8 : Shape := ⟨4, ![2, 5632, 64, 8]⟩

class Facts : Prop where
  bcast_S2x5632x64_S2x5632x64x1_0_1_2 : S2x5632x64.BroadcastsInDim S2x5632x64x1 (![0, 1, 2] : Fin 3 → Fin S2x5632x64x1.rank)
  bcast_S_S8 : S_.BroadcastsInDim S8 (![] : Fin 0 → Fin S8.rank)
  bcast_S8_S1x1x1x8_3 : S8.BroadcastsInDim S1x1x1x8 (![3] : Fin 1 → Fin S1x1x1x8.rank)
  bcast_S2x5632x64x1_S2x5632x64x8_0_1_2_3 : S2x5632x64x1.BroadcastsInDim S2x5632x64x8 (![0, 1, 2, 3] : Fin 4 → Fin S2x5632x64x8.rank)
  bcast_S1x1x1x8_S2x5632x64x8_0_1_2_3 : S1x1x1x8.BroadcastsInDim S2x5632x64x8 (![0, 1, 2, 3] : Fin 4 → Fin S2x5632x64x8.rank)
  bcast_S_S2x5632x64x8 : S_.BroadcastsInDim S2x5632x64x8 (![] : Fin 0 → Fin S2x5632x64x8.rank)

variable [Facts]

def fn_part1 {F : FTy → Type} [FloatOps F] (main_v9 : IVec S2x5632x64x8 32) (main_v18 : IVec S2x5632x64x8 32) (main_c_3 : IVec S_ 32) : IVec S2x5632x64x8 1 :=
  let main_v19 : IVec S2x5632x64x8 32 := broadcastInDim S2x5632x64x8 ![] bcast_S_S2x5632x64x8 main_c_3
  let main_v20 : IVec S2x5632x64x8 32 := andi main_v18 main_v19
  let main_v21 : IVec S2x5632x64x8 1 := cmpi .slt main_v9 main_v20
  main_v21

def fn {F : FTy → Type} [FloatOps F] (main_arg0 : FVec F S4x256x2048 .bf16) (main_arg1 : IVec S2x5632x1024 8) (main_arg2 : IVec S2x5632x64 32) (main_arg3 : FVec F S2x5632 .f32) : IVec S2x5632x64x8 1 :=
  let main_v0 : IVec S8 32 := iotaInDim S8 32 0
  let main_v1 : IVec S2x5632x64x1 32 := broadcastInDim S2x5632x64x1 ![0, 1, 2] bcast_S2x5632x64_S2x5632x64x1_0_1_2 main_arg2
  let main_c : IVec S_ 32 := constantI S_ 32 4#32
  let main_v2 : IVec S8 32 := broadcastInDim S8 ![] bcast_S_S8 main_c
  let main_v3 : IVec S8 32 := muli main_v2 main_v0
  let main_v4 : IVec S1x1x1x8 32 := broadcastInDim S1x1x1x8 ![3] bcast_S8_S1x1x1x8_3 main_v3
  let main_v5 : IVec S2x5632x64x8 32 := broadcastInDim S2x5632x64x8 ![0, 1, 2, 3] bcast_S2x5632x64x1_S2x5632x64x8_0_1_2_3 main_v1
  let main_v6 : IVec S2x5632x64x8 32 := broadcastInDim S2x5632x64x8 ![0, 1, 2, 3] bcast_S1x1x1x8_S2x5632x64x8_0_1_2_3 main_v4
  let main_v7 : IVec S2x5632x64x8 32 := Host.shrsi main_v5 main_v6
  let main_c_0 : IVec S_ 32 := constantI S_ 32 3#32
  let main_v8 : IVec S2x5632x64x8 32 := broadcastInDim S2x5632x64x8 ![] bcast_S_S2x5632x64x8 main_c_0
  let main_v9 : IVec S2x5632x64x8 32 := andi main_v7 main_v8
  let main_v10 : IVec S2x5632x64x1 32 := broadcastInDim S2x5632x64x1 ![0, 1, 2] bcast_S2x5632x64_S2x5632x64x1_0_1_2 main_arg2
  let main_c_1 : IVec S_ 32 := constantI S_ 32 4#32
  let main_v11 : IVec S8 32 := broadcastInDim S8 ![] bcast_S_S8 main_c_1
  let main_v12 : IVec S8 32 := muli main_v11 main_v0
  let main_c_2 : IVec S_ 32 := constantI S_ 32 2#32
  let main_v13 : IVec S8 32 := broadcastInDim S8 ![] bcast_S_S8 main_c_2
  let main_v14 : IVec S8 32 := addi main_v12 main_v13
  let main_v15 : IVec S1x1x1x8 32 := broadcastInDim S1x1x1x8 ![3] bcast_S8_S1x1x1x8_3 main_v14
  let main_v16 : IVec S2x5632x64x8 32 := broadcastInDim S2x5632x64x8 ![0, 1, 2, 3] bcast_S2x5632x64x1_S2x5632x64x8_0_1_2_3 main_v10
  let main_v17 : IVec S2x5632x64x8 32 := broadcastInDim S2x5632x64x8 ![0, 1, 2, 3] bcast_S1x1x1x8_S2x5632x64x8_0_1_2_3 main_v15
  let main_v18 : IVec S2x5632x64x8 32 := Host.shrsi main_v16 main_v17
  let main_c_3 : IVec S_ 32 := constantI S_ 32 3#32
  fn_part1 (F := F) main_v9 main_v18 main_c_3
-- ==== Kernel.lean ====
abbrev S4x256x2048 : Shape := ⟨3, ![4, 256, 2048]⟩
abbrev S2x5632x1024 : Shape := ⟨3, ![2, 5632, 1024]⟩
abbrev S2x5632x64 : Shape := ⟨3, ![2, 5632, 64]⟩
abbrev S2x5632 : Shape := ⟨2, ![2, 5632]⟩
abbrev S1024x2048 : Shape := ⟨2, ![1024, 2048]⟩
abbrev S2x64x5632 : Shape := ⟨3, ![2, 64, 5632]⟩
abbrev S1024x5632 : Shape := ⟨2, ![1024, 5632]⟩
abbrev S4x1x256 : Shape := ⟨3, ![4, 1, 256]⟩
abbrev S2x256x1024 : Shape := ⟨3, ![2, 256, 1024]⟩
abbrev S2x64x256 : Shape := ⟨3, ![2, 64, 256]⟩
abbrev S2x256 : Shape := ⟨2, ![2, 256]⟩
abbrev S1024x256 : Shape := ⟨2, ![1024, 256]⟩
abbrev S1024x128 : Shape := ⟨2, ![1024, 128]⟩
abbrev S2112x512 : Shape := ⟨2, ![2112, 512]⟩
abbrev S2x512x256 : Shape := ⟨3, ![2, 512, 256]⟩
abbrev S272x128 : Shape := ⟨2, ![272, 128]⟩
abbrev S64x128 : Shape := ⟨2, ![64, 128]⟩
abbrev S22x1024x256 : Shape := ⟨3, ![22, 1024, 256]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S128x128 : Shape := ⟨2, ![128, 128]⟩
abbrev S1x128 : Shape := ⟨2, ![1, 128]⟩
abbrev S1x1x128 : Shape := ⟨3, ![1, 1, 128]⟩
abbrev S512x128 : Shape := ⟨2, ![512, 128]⟩
abbrev S128x512 : Shape := ⟨2, ![128, 512]⟩
abbrev S32x512 : Shape := ⟨2, ![32, 512]⟩
abbrev S8x512 : Shape := ⟨2, ![8, 512]⟩
abbrev S1x128x128 : Shape := ⟨3, ![1, 128, 128]⟩
abbrev S32x128 : Shape := ⟨2, ![32, 128]⟩
abbrev S16x128 : Shape := ⟨2, ![16, 128]⟩
abbrev S1x64x128 : Shape := ⟨3, ![1, 64, 128]⟩
abbrev S8x128 : Shape := ⟨2, ![8, 128]⟩
abbrev S1x8x128 : Shape := ⟨3, ![1, 8, 128]⟩
abbrev S256x256 : Shape := ⟨2, ![256, 256]⟩
abbrev S1x64x256 : Shape := ⟨3, ![1, 64, 256]⟩
abbrev S64x256 : Shape := ⟨2, ![64, 256]⟩
abbrev S256x128 : Shape := ⟨2, ![256, 128]⟩
abbrev S1x256 : Shape := ⟨2, ![1, 256]⟩
abbrev S1x256x256 : Shape := ⟨3, ![1, 256, 256]⟩
abbrev S1x128x256 : Shape := ⟨3, ![1, 128, 256]⟩

abbrev nBuf : Space → Nat
  | .hbm => 11
  | .vmem => 21
  | .smem => 0
  | _ => 0

abbrev bufTy : (tb : Table) → Fin (tcTables nBuf tb) → BufTy
  | .hbm, ⟨0, _⟩ => ⟨S4x256x2048, .bf16⟩
  | .hbm, ⟨1, _⟩ => ⟨S2x5632x1024, .i8⟩
  | .hbm, ⟨2, _⟩ => ⟨S2x5632x64, .i32⟩
  | .hbm, ⟨3, _⟩ => ⟨S2x5632, .f32⟩
  | .hbm, ⟨4, _⟩ => ⟨S1024x2048, .bf16⟩
  | .hbm, ⟨5, _⟩ => ⟨S2x64x5632, .i32⟩
  | .hbm, ⟨6, _⟩ => ⟨S1024x5632, .bf16⟩
  | .hbm, ⟨7, _⟩ => ⟨S1024x2048, .fp8e4m3⟩
  | .hbm, ⟨8, _⟩ => ⟨S4x1x256, .f32⟩
  | .hbm, ⟨9, _⟩ => ⟨S1024x5632, .fp8e4m3⟩
  | .hbm, ⟨10, _⟩ => ⟨S4x1x256, .f32⟩
  | .local _ .vmem, ⟨0, _⟩ => ⟨S1024x2048, .bf16⟩
  | .local _ .vmem, ⟨1, _⟩ => ⟨S2x256x1024, .i8⟩
  | .local _ .vmem, ⟨2, _⟩ => ⟨S2x256x1024, .i8⟩
  | .local _ .vmem, ⟨3, _⟩ => ⟨S2x64x256, .i32⟩
  | .local _ .vmem, ⟨4, _⟩ => ⟨S2x64x256, .i32⟩
  | .local _ .vmem, ⟨5, _⟩ => ⟨S2x256, .f32⟩
  | .local _ .vmem, ⟨6, _⟩ => ⟨S2x256, .f32⟩
  | .local _ .vmem, ⟨7, _⟩ => ⟨S1024x256, .bf16⟩
  | .local _ .vmem, ⟨8, _⟩ => ⟨S1024x256, .bf16⟩
  | .local _ .vmem, ⟨9, _⟩ => ⟨S1024x2048, .fp8e4m3⟩
  | .local _ .vmem, ⟨10, _⟩ => ⟨S4x1x256, .f32⟩
  | .local _ .vmem, ⟨11, _⟩ => ⟨S1024x5632, .fp8e4m3⟩
  | .local _ .vmem, ⟨12, _⟩ => ⟨S4x1x256, .f32⟩
  | .local _ .vmem, ⟨13, _⟩ => ⟨S1024x2048, .fp8e4m3⟩
  | .local _ .vmem, ⟨14, _⟩ => ⟨S1024x128, .f32⟩
  | .local _ .vmem, ⟨15, _⟩ => ⟨S2112x512, .f32⟩
  | .local _ .vmem, ⟨16, _⟩ => ⟨S2x512x256, .i32⟩
  | .local _ .vmem, ⟨17, _⟩ => ⟨S272x128, .i32⟩
  | .local _ .vmem, ⟨18, _⟩ => ⟨S64x128, .i32⟩
  | .local _ .vmem, ⟨19, _⟩ => ⟨S22x1024x256, .f32⟩
  | .local _ .vmem, ⟨20, _⟩ => ⟨S1024x128, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![22], ![false]⟩

def k0_off1 (i : grid0.Coords) : Fin 3 → Nat :=
  let arg0 : BitVec 32 := BitVec.ofNat 32 (i 0).val
  let v5744 : Index := Scalar.indexCast arg0
  let c0_2849 : Index := 0#32
  let c0_2850 : Index := 0#32
  ![v5744.toNat, 0, 0]
def k0_off2 (i : grid0.Coords) : Fin 3 → Nat :=
  let arg0 : BitVec 32 := BitVec.ofNat 32 (i 0).val
  let v5872 : Index := Scalar.indexCast arg0
  let c256_2962 : Index := 256#32
  let c0_2963 : Index := 0#32
  ![v5872.toNat, 256, 0]
def k0_off3 (i : grid0.Coords) : Fin 3 → Nat :=
  let arg0 : BitVec 32 := BitVec.ofNat 32 (i 0).val
  let v6000 : Index := Scalar.indexCast arg0
  let c512_3075 : Index := 512#32
  let c0_3076 : Index := 0#32
  ![v6000.toNat, 512, 0]
def k0_off4 (i : grid0.Coords) : Fin 3 → Nat :=
  let arg0 : BitVec 32 := BitVec.ofNat 32 (i 0).val
  let v6128 : Index := Scalar.indexCast arg0
  let c768_3188 : Index := 768#32
  let c0_3189 : Index := 0#32
  ![v6128.toNat, 768, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c21_i32 : BitVec 32 := 21#32
  let v6143 : BitVec 1 := Scalar.cmpi .eq arg0 c21_i32
  let v6144 : BitVec 32 := Scalar.extui v6143
  let c0_i32_3196 : BitVec 32 := 0#32
  let v6145 : BitVec 1 := Scalar.cmpi .ne v6144 c0_i32_3196
  v6145

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x256x2048 : Shape := ⟨3, ![4, 256, 2048]⟩
abbrev S2x5632x1024 : Shape := ⟨3, ![2, 5632, 1024]⟩
abbrev S2x5632x64 : Shape := ⟨3, ![2, 5632, 64]⟩
abbrev S2x5632 : Shape := ⟨2, ![2, 5632]⟩
abbrev S8 : Shape := ⟨1, ![8]⟩
abbrev S2x5632x64x1 : Shape := ⟨4, ![2, 5632, 64, 1]⟩
abbrev S_ : Shape := ⟨0, ![]⟩
abbrev S1x1x1x8 : Shape := ⟨4, ![1, 1, 1, 8]⟩
abbrev S2x5632x64x8 : Shape := ⟨4, ![2, 5632, 64, 8]⟩
abbrev S2x5632x64x8x2 : Shape := ⟨5, ![2, 5632, 64, 8, 2]⟩
abbrev S2x5632x64x8x1 : Shape := ⟨5, ![2, 5632, 64, 8, 1]⟩
abbrev S4 : Shape := ⟨1, ![4]⟩
abbrev S1x1x1x1x4 : Shape := ⟨5, ![1, 1, 1, 1, 4]⟩
abbrev S2x5632x64x8x4 : Shape := ⟨5, ![2, 5632, 64, 8, 4]⟩
abbrev S2x5632x2048 : Shape := ⟨3, ![2, 5632, 2048]⟩
abbrev S1024x2048 : Shape := ⟨2, ![1024, 2048]⟩
abbrev S1024x5632 : Shape := ⟨2, ![1024, 5632]⟩
abbrev S4x1x256 : Shape := ⟨3, ![4, 1, 256]⟩
abbrev S1024 : Shape := ⟨1, ![1024]⟩
abbrev S1024x246 : Shape := ⟨2, ![1024, 246]⟩
abbrev S1024x1 : Shape := ⟨2, ![1024, 1]⟩
abbrev S1x5632x2048 : Shape := ⟨3, ![1, 5632, 2048]⟩
abbrev S5632x2048 : Shape := ⟨2, ![5632, 2048]⟩
abbrev S1x5632 : Shape := ⟨2, ![1, 5632]⟩

abbrev nBuf : Space → Nat
  | .hbm => 59
  | .vmem => 6
  | .smem => 0
  | _ => 0

abbrev bufTy : (tb : Table) → Fin (tcTables nBuf tb) → BufTy
  | .hbm, ⟨0, _⟩ => ⟨S4x256x2048, .bf16⟩
  | .hbm, ⟨1, _⟩ => ⟨S2x5632x1024, .i8⟩
  | .hbm, ⟨2, _⟩ => ⟨S2x5632x64, .i32⟩
  | .hbm, ⟨3, _⟩ => ⟨S2x5632, .f32⟩
  | .hbm, ⟨4, _⟩ => ⟨S8, .i32⟩
  | .hbm, ⟨5, _⟩ => ⟨S2x5632x64x1, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x1x1x8, .i32⟩
  | .hbm, ⟨10, _⟩ => ⟨S2x5632x64x8, .i32⟩
  | .hbm, ⟨11, _⟩ => ⟨S2x5632x64x8, .i32⟩
  | .hbm, ⟨12, _⟩ => ⟨S2x5632x64x8, .i32⟩
  | .hbm, ⟨13, _⟩ => ⟨S_, .i32⟩
  | .hbm, ⟨14, _⟩ => ⟨S2x5632x64x8, .i32⟩
  | .hbm, ⟨15, _⟩ => ⟨S2x5632x64x8, .i32⟩
  | .hbm, ⟨16, _⟩ => ⟨S2x5632x64x1, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S1x1x1x8, .i32⟩
  | .hbm, ⟨24, _⟩ => ⟨S2x5632x64x8, .i32⟩
  | .hbm, ⟨25, _⟩ => ⟨S2x5632x64x8, .i32⟩
  | .hbm, ⟨26, _⟩ => ⟨S2x5632x64x8, .i32⟩
  | .hbm, ⟨27, _⟩ => ⟨S_, .i32⟩
  | .hbm, ⟨28, _⟩ => ⟨S2x5632x64x8, .i32⟩
  | .hbm, ⟨29, _⟩ => ⟨S2x5632x64x8, .i32⟩
  | .hbm, ⟨30, _⟩ => ⟨S2x5632x64x8x2, .i8⟩
  | .hbm, ⟨31, _⟩ => ⟨S2x5632x64x8x1, .i8⟩
  | .hbm, ⟨32, _⟩ => ⟨S2x5632x64x8, .i8⟩
  | .hbm, ⟨33, _⟩ => ⟨S2x5632x64x8x1, .i8⟩
  | .hbm, ⟨34, _⟩ => ⟨S2x5632x64x8, .i8⟩
  | .hbm, ⟨35, _⟩ => ⟨S4, .i32⟩
  | .hbm, ⟨36, _⟩ => ⟨S2x5632x64x8x1, .i32⟩
  | .hbm, ⟨37, _⟩ => ⟨S1x1x1x1x4, .i32⟩
  | .hbm, ⟨38, _⟩ => ⟨S2x5632x64x8x4, .i32⟩
  | .hbm, ⟨39, _⟩ => ⟨S2x5632x64x8x4, .i32⟩
  | .hbm, ⟨40, _⟩ => ⟨S2x5632x64x8x4, .i1⟩
  | .hbm, ⟨41, _⟩ => ⟨S2x5632x64x8x1, .i8⟩
  | .hbm, ⟨42, _⟩ => ⟨S2x5632x64x8x1, .i32⟩
  | .hbm, ⟨43, _⟩ => ⟨S1x1x1x1x4, .i32⟩
  | .hbm, ⟨44, _⟩ => ⟨S2x5632x64x8x4, .i32⟩
  | .hbm, ⟨45, _⟩ => ⟨S2x5632x64x8x4, .i32⟩
  | .hbm, ⟨46, _⟩ => ⟨S2x5632x64x8x4, .i1⟩
  | .hbm, ⟨47, _⟩ => ⟨S2x5632x64x8x1, .i8⟩
  | .hbm, ⟨48, _⟩ => ⟨S_, .i8⟩
  | .hbm, ⟨49, _⟩ => ⟨S2x5632x64x8x4, .i8⟩
  | .hbm, ⟨50, _⟩ => ⟨S2x5632x64x8x4, .i8⟩
  | .hbm, ⟨51, _⟩ => ⟨S2x5632x64x8x4, .i8⟩
  | .hbm, ⟨52, _⟩ => ⟨S2x5632x64x8x4, .i8⟩
  | .hbm, ⟨53, _⟩ => ⟨S2x5632x64x8x4, .i8⟩
  | .hbm, ⟨54, _⟩ => ⟨S2x5632x2048, .i8⟩
  | .hbm, ⟨55, _⟩ => ⟨S1024x2048, .bf16⟩
  | .hbm, ⟨56, _⟩ => ⟨S1024x5632, .bf16⟩
  | .hbm, ⟨57, _⟩ => ⟨S1024x2048, .fp8e4m3⟩
  | .hbm, ⟨58, _⟩ => ⟨S4x1x256, .f32⟩
  | .local _ .vmem, ⟨0, _⟩ => ⟨S1024x2048, .bf16⟩
  | .local _ .vmem, ⟨1, _⟩ => ⟨S2x5632x2048, .i8⟩
  | .local _ .vmem, ⟨2, _⟩ => ⟨S2x5632, .f32⟩
  | .local _ .vmem, ⟨3, _⟩ => ⟨S1024x5632, .bf16⟩
  | .local _ .vmem, ⟨4, _⟩ => ⟨S1024x2048, .fp8e4m3⟩
  | .local _ .vmem, ⟨5, _⟩ => ⟨S4x1x256, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_call0_v0 : Ref sig .tc := ⟨.hbm, 49, rfl⟩
abbrev main_call0_v1 : Ref sig .tc := ⟨.hbm, 50, rfl⟩
abbrev main_v39 : Ref sig .tc := ⟨.hbm, 51, rfl⟩
abbrev main_call1_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x5632x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Runs.lean ====
/- What the kernel body asks of each of its three cases. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, k0_cond1, e0]
    word_cmp
   : ∀ t : Fin grid0.N, cond0_0 (grid0.coords t) ↔ t.val % 22 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 22 = 21 :=
  (fun t => by
    have ht : t.val < 22 := Nat.lt_of_lt_of_eq t.isLt N_0
    have e0 : (grid0.coords t 0).val = t.val / 1 % 22 := Pipeline.Grid.coords_val t 0 (by decide) rfl
    simp only [cond0_1, k0_cond2, e0]
    word_cmp
   : ∀ t : Fin grid0.N, cond0_1 (grid0.coords t) ↔ t.val % 22 = 21)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x5632 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x2048 .fp8e4m3 := Memref.whole cc0_scratch0
abbrev scM0_1 : Memref sig .tc .vmem S1024x128 .f32 := Memref.whole cc0_scratch1
abbrev scM0_2 : Memref sig .tc .vmem S2112x512 .f32 := Memref.whole cc0_scratch2
abbrev scM0_3 : Memref sig .tc .vmem S2x512x256 .i32 := Memref.whole cc0_scratch3
abbrev scM0_4 : Memref sig .tc .vmem S272x128 .i32 := Memref.whole cc0_scratch4
abbrev scM0_5 : Memref sig .tc .vmem S64x128 .i32 := Memref.whole cc0_scratch5
abbrev scM0_6 : Memref sig .tc .vmem S22x1024x256 .f32 := Memref.whole cc0_scratch6
abbrev scM0_7 : Memref sig .tc .vmem S1024x128 .f32 := Memref.whole cc0_scratch7
/-- The scratch `arg10` the kernel carries between points, as a view: what it holds is stated through it. -/
abbrev VS0_0 : View sig .tc .vmem S1024x2048 .fp8e4m3 := scM0_0.view
/-- The scratch `arg11` the kernel carries between points, as a view: what it holds is stated through it. -/
abbrev VS0_1 : View sig .tc .vmem S1024x128 .f32 := scM0_1.view
/-- The scratch `arg17` the kernel carries between points, as a view: what it holds is stated through it. -/
abbrev VS0_7 : View sig .tc .vmem S1024x128 .f32 := scM0_7.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.Bits.RunA.lean ====
/- The kernel body run in case A. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11796000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_A (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) :
    Σ' (LS0 : List (View.Piece (Elt F) S1024x2048 .fp8e4m3)), Σ' (LS1 : List (View.Piece (Elt F) S1024x128 .f32)), Σ' (LS7 : List (View.Piece (Elt F) S1024x128 .f32)), Σ' (LT2 : List (View.Piece (Elt F) S2112x512 .f32)), Σ' (LT3 : List (View.Piece (Elt F) S2x512x256 .i32)), Σ' (LT4 : List (View.Piece (Elt F) S272x128 .i32)), { LT5 : List (View.Piece (Elt F) S64x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ d, owns (c : Thread nD τ) arg16 fullShare d) ∗ (∃ f, arg17.view.loc (c : Thread nD τ) ↦[arg17.view.set]{fullShare} arg17.view.writes (Elt F) f LS7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0__body_eq_skeleton]; unfold cc0__body_skel
    simp only [k0_part288_eq_skeleton, k0_part125_eq_skeleton, k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part289_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part290_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]
    · iexists _, _; isplitr; swap; · iexact HS6
      ipureintro; rfl
    iexists _; iexact HS7

end Cert.Kernel.Gen

end
-- ==== Proof.Bits.RunB.lean ====
/- The kernel body run in case B. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6784000 in
/-- What the body's stores leave in each output's staging memref, as pieces (last first) IN CASE B (`scf.if` 0 not taken, `scf.if` 1 not taken: points 1, 2, … 20: 20 of 22), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_B (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : ¬cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) :
    Σ' (LS0 : List (View.Piece (Elt F) S1024x2048 .fp8e4m3)), Σ' (LS1 : List (View.Piece (Elt F) S1024x128 .f32)), Σ' (LS7 : List (View.Piece (Elt F) S1024x128 .f32)), Σ' (LT2 : List (View.Piece (Elt F) S2112x512 .f32)), Σ' (LT3 : List (View.Piece (Elt F) S2x512x256 .i32)), Σ' (LT4 : List (View.Piece (Elt F) S272x128 .i32)), { LT5 : List (View.Piece (Elt F) S64x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ d, owns (c : Thread nD τ) arg16 fullShare d) ∗ (∃ f, arg17.view.loc (c : Thread nD τ) ↦[arg17.view.set]{fullShare} arg17.view.writes (Elt F) f LS7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, [], ?_, ?_, ?_, fun E K => ?run⟩
  case run =>
    simp only [cc0__body_eq_skeleton]; unfold cc0__body_skel
    simp only [k0_part288_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part289_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part290_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1; obtain rfl := harg17.eq_unread hfs7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _; isplitr; · ipureintro; exact harg11.read_unread _
      iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]
    · iexists _, _; isplitr; swap; · iexact HS6
      ipureintro; rfl
    iexists _; iexact HS7

end Cert.Kernel.Gen

end
-- ==== Proof.Bits.RunC.lean ====
/- The kernel body run in case C. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9656000 in
/-- What the body's stores leave in each output's staging memref, as pieces (last first) IN CASE C (`scf.if` 0 not taken, `scf.if` 1 taken: points 21), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6, 7, 8) at anything, handed back at some contents nothing names. -/
noncomputable def kernelRun0_C (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) :
    Σ' (LS0 : List (View.Piece (Elt F) S1024x2048 .fp8e4m3)), Σ' (LS1 : List (View.Piece (Elt F) S1024x128 .f32)), Σ' (LS7 : List (View.Piece (Elt F) S1024x128 .f32)), Σ' (LT2 : List (View.Piece (Elt F) S2112x512 .f32)), Σ' (LT3 : List (View.Piece (Elt F) S2x512x256 .i32)), Σ' (LT4 : List (View.Piece (Elt F) S272x128 .i32)), { LT5 : List (View.Piece (Elt F) S64x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ d, owns (c : Thread nD τ) arg16 fullShare d) ∗ (∃ f, arg17.view.loc (c : Thread nD τ) ↦[arg17.view.set]{fullShare} arg17.view.writes (Elt F) f LS7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, [], ?_, ?_, ?_, fun E K => ?run⟩
  case run =>
    simp only [cc0__body_eq_skeleton]; unfold cc0__body_skel
    simp only [k0_part288_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part289_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part290_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part124_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1; obtain rfl := harg17.eq_unread hfs7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _; isplitr; · ipureintro; exact harg11.read_unread _
      iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]
    · iexists _, _; isplitr; swap; · iexact HS6
      ipureintro; rfl
    iexists _; iexact HS7

end Cert.Kernel.Gen

end
-- ==== Proof.Bits.Frame.lean ====
/- The frame of the kernel: every argument array is unchanged and every counter is back at rest. -/
module

public import proofs.«01_k».proof.Proof.Bits.RunA
public import proofs.«01_k».proof.Proof.Bits.RunB
public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 32 pieces of `S512x128` tiling it (Lib/Ring.lean `Piece.tiledL`). -/
theorem scover0_A_0 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) (y : S1024x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1 S512x128.size (by sl_kernel_rfl) y

/-- What case A leaves in scratch `arg10`: its pieces read back over junk. -/
def sout0_A_0 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) : Vec F S1024x2048 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1)

/-- Case A's pieces for scratch `arg11`, which the kernel carries between points, cover it: 8 pieces of `S128x128` tiling it (Lib/Ring.lean `Piece.tiledL`). -/
theorem scover0_A_1 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1 S128x128.size (by sl_kernel_rfl) y

/-- What case A leaves in scratch `arg11`: its pieces read back over junk. -/
def sout0_A_1 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) : Vec F S1024x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1)

/-- Case A's pieces for scratch `arg17`, which the kernel carries between points, cover it: one of them a store of the WHOLE buffer (Lib/Ring.lean `sl_whole_mem`). -/
theorem scover0_A_7 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1 (by sl_whole_mem) y

/-- What case A leaves in scratch `arg17`: its pieces read back over junk. -/
def sout0_A_7 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) : Vec F S1024x128 .f32 :=
  VS0_7.read (Elt F) (VS0_7.writes (Elt F) VS0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1)

/-- Case B stores nothing into scratch `arg10`: it holds what the point before left. -/
def sout0_B_0 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : ¬cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) : Vec F S1024x2048 .fp8e4m3 := xs0

/-- Case B stores nothing into scratch `arg11`: it holds what the point before left. -/
def sout0_B_1 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : ¬cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) : Vec F S1024x128 .f32 := xs1

/-- Case B's pieces for scratch `arg17`, which the kernel carries between points, cover it: 4 pieces of `S256x128` tiling it (Lib/Ring.lean `Piece.tiledL`). -/
theorem scover0_B_7 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : ¬cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (y : S1024x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7).2.2.1 S256x128.size (by sl_kernel_rfl) y

/-- What case B leaves in scratch `arg17`: its pieces read back over junk. -/
def sout0_B_7 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : ¬cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) : Vec F S1024x128 .f32 :=
  VS0_7.read (Elt F) (VS0_7.writes (Elt F) VS0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7).2.2.1)

/-- Case C stores nothing into scratch `arg10`: it holds what the point before left. -/
def sout0_C_0 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) : Vec F S1024x2048 .fp8e4m3 := xs0

/-- Case C stores nothing into scratch `arg11`: it holds what the point before left. -/
def sout0_C_1 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) : Vec F S1024x128 .f32 := xs1

/-- Case C's pieces for scratch `arg17`, which the kernel carries between points, cover it: 4 pieces of `S256x128` tiling it (Lib/Ring.lean `Piece.tiledL`). -/
theorem scover0_C_7 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (y : S1024x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7).2.2.1 S256x128.size (by sl_kernel_rfl) y

/-- What case C leaves in scratch `arg17`: its pieces read back over junk. -/
def sout0_C_7 (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) : Vec F S1024x128 .f32 :=
  VS0_7.read (Elt F) (VS0_7.writes (Elt F) VS0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2048 .fp8e4m3 × Vec F S1024x128 .f32 × Vec F S1024x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 22 = 0 then
      if h1 : (n + 1) % 22 = 21 then
        False.elim (by have hN : n + 1 < 22 := lt_of_lt_of_eq hn (show cfg0.N = 22 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 22 = 21 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 22 = 0) (h1 : ¬t.val % 22 = 21) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t), sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 22 = 0) (h1 : ¬t.val % 22 = 21) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 22 = 0) (h1 : t.val % 22 = 21) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare ((outsAt0 m c (n - 1) (by omega)).2.2)) ∗ (∃ r, prngReg c r)) := by
  cases n with
  | zero => exact absurd rfl hz
  | succ n => rfl

/-! ## The pipeline's proof data -/

/-- The output windows this certificate FORGETS (4, 5, 6, 7, 8): nothing reads what the kernel leaves in them, so nothing
    of it is named (Lib/Pipeline/Dat.lean `Dat.toRForget`). -/
def forgets0 : Fin 9 → Bool := fun w => w.val == 4 || w.val == 5 || w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 22 := lt_of_lt_of_eq t.isLt (show cfg0.N = 22 from N_0)
  by_cases h0 : t.val % 22 = 0
  · by_cases h1 : t.val % 22 = 21
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · rw [PhiS_castSucc m c t, PhiS_zero m c _ _ hz, PhiA0_eq]
        rw [outsAt0_A m c t h0 h1]
        unfold sout0_A_0 sout0_A_1 sout0_A_7; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, ⟨%es0, HS0⟩, ⟨%es1, HS1⟩, ⟨%fT2, HS2⟩, ⟨%fT3, HS3⟩, ⟨%fT4, HS4⟩, ⟨%fT5, HS5⟩, HS6, ⟨%es7, HS7⟩⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexact HS6
            unfold owns; iexists _; isplitr
            swap; · iexact HS7
            ipureintro; exact View.read_writes_of_cover _ _ _ _ _ (scover0_A_7 c _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · exfalso; have hN : t.val < 22 := lt_of_lt_of_eq t.isLt (show cfg0.N = 22 from N_0); omega
  · by_cases h1 : t.val % 22 = 21
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 22 := lt_of_lt_of_eq t.isLt (show cfg0.N = 22 from N_0); omega
      · rw [PhiS_castSucc m c t, PhiS_pos m c _ _ hz]
        rw [outsAt0_C m c t h0 h1]
        unfold sout0_C_0 sout0_C_1 sout0_C_7; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, HS0, HS1, HS2, ⟨%fT3, HS3⟩, ⟨%fT4, HS4⟩, ⟨%fT5, HS5⟩, HS6, ⟨%es7, HS7⟩⟩
        isplitl [HS0 HS1 HS2 HS3 HS4 HS5 HS6 HS7 Hg]
        · isplitl [HS0 HS1 HS2 HS3 HS4 HS5 HS6 HS7]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexact HS6
            unfold owns; iexists _; isplitr
            swap; · iexact HS7
            ipureintro; exact View.read_writes_of_cover _ _ _ _ _ (scover0_C_7 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      by_cases hz : t.val = 0
      · exfalso; have hN : t.val < 22 := lt_of_lt_of_eq t.isLt (show cfg0.N = 22 from N_0); omega
      · rw [PhiS_castSucc m c t, PhiS_pos m c _ _ hz]
        rw [outsAt0_B m c t h0 h1]
        unfold sout0_B_0 sout0_B_1 sout0_B_7; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, HS0, HS1, HS2, ⟨%fT3, HS3⟩, ⟨%fT4, HS4⟩, ⟨%fT5, HS5⟩, HS6, ⟨%es7, HS7⟩⟩
        isplitl [HS0 HS1 HS2 HS3 HS4 HS5 HS6 HS7 Hg]
        · isplitl [HS0 HS1 HS2 HS3 HS4 HS5 HS6 HS7]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexact HS6
            unfold owns; iexists _; isplitr
            swap; · iexact HS7
            ipureintro; exact View.read_writes_of_cover _ _ _ _ _ (scover0_B_7 c _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    iexists _; iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 22 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Value.Numbers.lean ====
/- A row's exponent over the extended reals, and the powers of two the codes and scales are made with. -/
module

public import Idealize.ShloMosaic.Lib.Pipeline.Value
public import Idealize.ShloMosaic.PureOps.Ideal.Laws
public import Idealize.ShloMosaic.Lib.IdealHost

@[expose] public section

noncomputable section

namespace Cert.Hand

open Idealize.ShloMosaic
open scoped BigOperators

/-- The greatest magnitude of a row. -/
def rowMax (f : Fin 2048 → EReal) : EReal :=
  (Finset.univ : Finset (Fin 2048)).fold max (Ideal.ofBits .f32 0xFF800000#32) fun k => max (f k) (-(f k))

/-- … over 448, as the kernel multiplies. -/
def scaled (f : Fin 2048 → EReal) : EReal := rowMax f * Ideal.ofBits .f32 0x3B124925#32

/-- A power of two. -/
def pow2 (e : ℤ) : EReal := (((2 : ℝ) ^ e : ℝ) : EReal)

/-- How many powers from `2 ^ (-126)` to `2 ^ 119` do not exceed `y`. -/
def count (y : EReal) : ℕ := ((Finset.univ : Finset (Fin 246)).filter fun k => pow2 ((k.val : ℤ) - 126) ≤ y).card

theorem count_le (y : EReal) : count y < 247 :=
  Nat.lt_succ_of_le ((Finset.card_filter_le _ _).trans (by rw [Finset.card_univ, Fintype.card_fin]))

/-- The exponent. -/
def expo (y : EReal) : ℤ := if y = 0 then 0 else (count y : ℤ) - 126

/-- The exponent, as the kernel's word. -/
def expoW (y : EReal) : BitVec 32 := if y = 0 then 0#32 else BitVec.ofNat 32 (count y) - 126#32

/-! ## Powers of two from their words -/

theorem pow_bits : ∀ n : Fin 255, 1 ≤ n.val → ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

theorem ofBits_pow (n : ℕ) (h1 : 1 ≤ n) (h2 : n < 255) :
    Ideal.ofBits .f32 (BitVec.ofNat 32 n <<< 23) = pow2 ((n : ℤ) - 127) := by
  obtain ⟨a, b, c⟩ := pow_bits ⟨n, h2⟩ h1
  dsimp only at a b c
  show Ideal.ieee 8 23 _ = _
  unfold Ideal.ieee
  simp only [a, b, c]
  rw [if_neg (by norm_num; omega), if_neg (by omega)]
  unfold pow2
  refine congrArg (fun r : ℝ => (r : EReal)) ?_
  have e : ((2 : ℝ) ^ ((n : ℤ) - (2 ^ (8 - 1) - 1) - (23 : ℕ))) = (2 : ℝ) ^ ((n : ℤ) - 127) / 2 ^ 23 := by
    rw [show ((n : ℤ) - (2 ^ (8 - 1) - 1) - (23 : ℕ)) = ((n : ℤ) - 127) - (23 : ℕ) by norm_num, zpow_sub₀ (by norm_num), zpow_natCast]
  rw [e, if_neg Bool.false_ne_true]
  push_cast
  ring

theorem word_up : ∀ n : Fin 247, (BitVec.ofNat 32 n.val - 126#32 + 127#32) <<< 23 = BitVec.ofNat 32 (n.val + 1) <<< 23 := by decide +kernel
theorem word_down : ∀ n : Fin 247, (0#32 - (BitVec.ofNat 32 n.val - 126#32) + 127#32) <<< 23 = BitVec.ofNat 32 (253 - n.val) <<< 23 := by
  decide +kernel

/-- The scale's word. -/
theorem ofBits_up (y : EReal) : Ideal.ofBits .f32 ((expoW y + 127#32) <<< 23) = pow2 (expo y) := by
  unfold expoW expo
  have hc := count_le y
  by_cases h : y = 0
  · rw [if_pos h, if_pos h, show (0#32 + 127#32) <<< 23 = BitVec.ofNat 32 127 <<< 23 from rfl, ofBits_pow 127 (by omega) (by omega)]; rfl
  · rw [if_neg h, if_neg h, word_up ⟨count y, hc⟩, ofBits_pow _ (by omega) (by dsimp only; omega)]
    congr 1; dsimp only; omega

/-- The word of the scale's inverse. -/
theorem ofBits_down (y : EReal) : Ideal.ofBits .f32 ((0#32 - expoW y + 127#32) <<< 23) = pow2 (-expo y) := by
  unfold expoW expo
  have hc := count_le y
  by_cases h : y = 0
  · rw [if_pos h, if_pos h, show (0#32 - 0#32 + 127#32) <<< 23 = BitVec.ofNat 32 127 <<< 23 from rfl, ofBits_pow 127 (by omega) (by omega)]; rfl
  · rw [if_neg h, if_neg h, word_down ⟨count y, hc⟩, ofBits_pow _ (by dsimp only; omega) (by dsimp only; omega)]
    congr 1; dsimp only; omega

theorem exp2_int (e : ℤ) : Ideal.exp2 (((e : ℝ)) : EReal) = pow2 e := by
  rw [Ideal.exp2_coe]; unfold pow2; congr 1; exact Real.rpow_intCast 2 e

/-! ## Counting -/

theorem sum_count (y : EReal) : (∑ k : Fin 246, (if pow2 ((k.val : ℤ) - 126) ≤ y then (1 : EReal) else 0)) = ((count y : ℕ) : EReal) := by
  rw [Finset.sum_boole]; rfl

theorem word_pow : ∀ k : Fin 246, (BitVec.ofNat 32 k.val - 126#32 + 127#32) <<< 23 = BitVec.ofNat 32 (k.val + 1) <<< 23 := by decide +kernel
theorem ofBits_k (k : Fin 246) : Ideal.ofBits .f32 ((BitVec.ofNat 32 k.val - 126#32 + 127#32) <<< 23) = pow2 ((k.val : ℤ) - 126) := by
  rw [word_pow k, ofBits_pow _ (by omega) (by omega)]; congr 1; omega

/-- The kernel's sum over 256 lanes, the last ten masked. -/
theorem sum_count_masked (y : EReal) :
    (∑ k : Fin 256, (if k.val < 246 ∧ Ideal.ofBits .f32 ((BitVec.ofNat 32 k.val - 126#32 + 127#32) <<< 23) ≤ y then (1 : EReal) else 0))
      = ((count y : ℕ) : EReal) := by
  rw [← sum_count, show (256 : ℕ) = 246 + 10 from rfl]
  refine (Fin.sum_univ_add (a := 246) (b := 10) _).trans ?_
  rw [Finset.sum_eq_zero (f := fun i : Fin 10 => _) (fun i _ => if_neg fun h => by have := h.1; simp at this), add_zero]
  refine Finset.sum_congr rfl fun k _ => ?_
  have e := ofBits_k k
  simp only [Fin.val_castAdd, k.isLt, true_and, e]

theorem fptosi_nat (n : ℕ) (h : n < 247) : Ideal.fptosi 32 ((n : ℕ) : EReal) = BitVec.ofNat 32 n := by
  rw [show ((n : ℕ) : EReal) = (((n : ℝ)) : EReal) from rfl]
  show BitVec.ofInt 32 (max (-(2 ^ (32 - 1) : Nat)) (min ((2 ^ (32 - 1) : Nat) - 1) (if 0 ≤ (n : ℝ) then ⌊(n : ℝ)⌋ else ⌈(n : ℝ)⌉))) = _
  rw [if_pos (Nat.cast_nonneg n), Int.floor_natCast, min_eq_right (by norm_num; omega), max_eq_right (by norm_num),
    BitVec.ofInt_natCast]

theorem ofBits_126 : Ideal.ofBits .f32 0x42FC0000#32 = ((126 : ℝ) : EReal) := by
  simp [Ideal.ofBits, Ideal.ieee, -EReal.coe_mul]; norm_num

theorem c448_pos : ∃ r : ℝ, r ≠ 0 ∧ Ideal.ofBits .f32 0x3B124925#32 = (r : EReal) := by
  refine ⟨_, ?_, by simp [Ideal.ofBits, Ideal.ieee, -EReal.coe_mul]; rfl⟩
  norm_num

theorem scaled_eq_zero (f : Fin 2048 → EReal) : scaled f = 0 ↔ rowMax f = 0 := by
  obtain ⟨r, hr, e⟩ := c448_pos
  unfold scaled
  rw [e, mul_eq_zero]
  exact or_iff_left (by exact_mod_cast hr)

/-- The reference's exponent, computed in numbers. -/
theorem expo_ref (f : Fin 2048 → EReal) :
    (if rowMax f = 0 then (0 : EReal) else ((count (scaled f) : ℕ) : EReal) - ((126 : ℝ) : EReal)) = (((expo (scaled f) : ℤ) : ℝ) : EReal) := by
  unfold expo
  by_cases h : rowMax f = 0
  · rw [if_pos h, if_pos ((scaled_eq_zero f).mpr h)]; simp
  · rw [if_neg h, if_neg (fun e => h ((scaled_eq_zero f).mp e)),
      show ((count (scaled f) : ℕ) : EReal) = (((count (scaled f) : ℝ)) : EReal) from rfl, ← EReal.coe_sub]
    push_cast; rfl

end Cert.Hand

end
-- ==== Proof.Ideal.Words.lean ====
/- Words of four bytes: what the byte shuffles and the byte masks of the expansion of the weights do to each byte. -/
module

public import Idealize.ShloMosaic.Lib.Pointwise
public import Idealize.ShloMosaic.Lib.BitcastFour

@[expose] public section

namespace Cert.KernelIdeal.Hand

open Idealize.ShloMosaic

/-- Byte `m` of a word. -/
def byteN (m : Nat) (x : BitVec 32) : BitVec 8 := x.extractLsb' (8 * m) 8

theorem byteN_getLsbD (m : Nat) (x : BitVec 32) (i : Nat) (hi : i < 8) : (byteN m x).getLsbD i = x.getLsbD (8 * m + i) := by
  simp [byteN, hi]

/-- The word with these four bytes. -/
def ofBytes (b : Nat → BitVec 8) : BitVec 32 := b 3 ++ (b 2 ++ (b 1 ++ b 0))

theorem byteN_ofBytes (b : Nat → BitVec 8) (m : Nat) (hm : m < 4) : byteN m (ofBytes b) = b m := by
  apply BitVec.eq_of_getLsbD_eq
  intro i hi
  rw [byteN_getLsbD _ _ _ hi]
  simp only [ofBytes, BitVec.getLsbD_append]
  interval_cases m
  · rw [if_pos (by omega), if_pos (by omega), if_pos (by omega)]; simp
  · rw [if_pos (by omega), if_pos (by omega), if_neg (by omega), show 8 * 1 + i - 8 = i by omega]
  · rw [if_pos (by omega), if_neg (by omega), show 8 * 2 + i - (8 + 8) = i by omega]
  · rw [if_neg (by omega), show 8 * 3 + i - (8 + (8 + 8)) = i by omega]

/-- Words with the same bytes are equal. -/
theorem eq_of_byteN {x y : BitVec 32} (h : ∀ m, m < 4 → byteN m x = byteN m y) : x = y := by
  apply BitVec.eq_of_getLsbD_eq
  intro i hi
  have h1 := congrArg (fun b => BitVec.getLsbD b (i % 8)) (h (i / 8) (by omega))
  simp only [byteN_getLsbD _ _ _ (Nat.mod_lt i (by omega : 0 < 8))] at h1
  rwa [show 8 * (i / 8) + i % 8 = i by omega] at h1

theorem eq_ofBytes {x : BitVec 32} {b : Nat → BitVec 8} (h : ∀ m, m < 4 → byteN m x = b m) : x = ofBytes b :=
  eq_of_byteN fun m hm => (h m hm).trans (byteN_ofBytes b m hm).symm

theorem byteN_and (m : Nat) (x y : BitVec 32) : byteN m (x &&& y) = byteN m x &&& byteN m y := by
  apply BitVec.eq_of_getLsbD_eq; intro i hi; simp [byteN, hi]
theorem byteN_or (m : Nat) (x y : BitVec 32) : byteN m (x ||| y) = byteN m x ||| byteN m y := by
  apply BitVec.eq_of_getLsbD_eq; intro i hi; simp [byteN, hi]
theorem byteN_xor (m : Nat) (x y : BitVec 32) : byteN m (x ^^^ y) = byteN m x ^^^ byteN m y := by
  apply BitVec.eq_of_getLsbD_eq; intro i hi; simp [byteN, hi]

/-- The arithmetic shift the kernel's words take, one bit of it inside the word. -/
theorem sar_getLsbD (x : BitVec 32) (n i : Nat) (hn : n < 32) (h : n + i < 32) :
    (IntOp.shrsi .vector x (BitVec.ofNat 32 n)).getLsbD i = x.getLsbD (n + i) := by
  have e : (BitVec.ofNat 32 n).toNat = n := by simp; omega
  simp only [IntOp.shrsi, e, hn, if_true, BitVec.sshiftRight', BitVec.getLsbD_sshiftRight]
  simp [h, show ¬ 32 ≤ i by omega]

theorem shl8_getLsbD (x : BitVec 32) (i : Nat) (hi : i < 32) :
    (IntOp.shli .vector x 8#32).getLsbD i = (decide (8 ≤ i) && x.getLsbD (i - 8)) := by
  have e : (8#32 : BitVec 32).toNat = 8 := rfl
  simp only [IntOp.shli, e, show (8:Nat) < 32 by omega, if_true, BitVec.getLsbD_shiftLeft]
  by_cases h : 8 ≤ i
  · simp [hi, h, Nat.not_lt.mpr h, BitVec.getLsbD_eq_getElem (show i - 8 < 32 by omega)]
  · simp [hi, h, Nat.lt_of_not_le h]

/-- Two half words side by side. -/
def pack16 (a b : BitVec 32) : BitVec 32 := b.setWidth 16 ++ a.setWidth 16

theorem pack16_getLsbD (a b : BitVec 32) (i : Nat) (hi : i < 32) :
    (pack16 a b).getLsbD i = if i < 16 then a.getLsbD i else b.getLsbD (i - 16) := by
  unfold pack16
  rw [BitVec.getLsbD_append]
  by_cases h : i < 16
  · simp [h]
  · simp [h, show i - 16 < 16 by omega]

/-- The even bytes of two words, interleaved. -/
def pack8 (a b : BitVec 32) : BitVec 32 := (a &&& 16711935#32) ||| IntOp.shli .vector (b &&& 16711935#32) 8#32

theorem maskEven : ∀ i : Fin 32, (16711935#32).getLsbD i.val = decide (i.val / 8 % 2 = 0) := by decide

theorem pack8_getLsbD (a b : BitVec 32) (i : Nat) (hi : i < 32) :
    (pack8 a b).getLsbD i = if i / 8 % 2 = 0 then a.getLsbD i else b.getLsbD (i - 8) := by
  unfold pack8
  rw [BitVec.getLsbD_or, shl8_getLsbD _ _ hi, BitVec.getLsbD_and, BitVec.getLsbD_and, maskEven ⟨i, hi⟩,
    maskEven ⟨i - 8, by omega⟩]
  by_cases h : i / 8 % 2 = 0
  · by_cases h8 : 8 ≤ i
    · simp [h, show ¬ (i - 8) / 8 % 2 = 0 by omega]
    · simp [h, h8]
  · simp [h, show (i - 8) / 8 % 2 = 0 by omega, show 8 ≤ i by omega]

/-- Word `k` of the four that hold byte `k` of each of four words. -/
def bytesAcross (k : Nat) (a0 a1 a2 a3 : BitVec 32) : BitVec 32 :=
  match k with
  | 0 => pack8 (pack16 a0 a2) (pack16 a1 a3)
  | 1 => pack8 (IntOp.shrsi .vector (pack16 a0 a2) 8#32) (IntOp.shrsi .vector (pack16 a1 a3) 8#32)
  | 2 => pack8 (pack16 (IntOp.shrsi .vector a0 16#32) (IntOp.shrsi .vector a2 16#32))
      (pack16 (IntOp.shrsi .vector a1 16#32) (IntOp.shrsi .vector a3 16#32))
  | _ => pack8 (IntOp.shrsi .vector (pack16 (IntOp.shrsi .vector a0 16#32) (IntOp.shrsi .vector a2 16#32)) 8#32)
      (IntOp.shrsi .vector (pack16 (IntOp.shrsi .vector a1 16#32) (IntOp.shrsi .vector a3 16#32)) 8#32)

/-- One of four. -/
def pick {α : Type} (m : Nat) (a0 a1 a2 a3 : α) : α :=
  match m with | 0 => a0 | 1 => a1 | 2 => a2 | _ => a3

theorem byteN_pack8_pack16 (a0 a1 a2 a3 : BitVec 32) (m : Nat) (hm : m < 4) :
    byteN m (pack8 (pack16 a0 a2) (pack16 a1 a3)) = byteN 0 (pick m a0 a1 a2 a3) := by
  apply BitVec.eq_of_getLsbD_eq; intro i hi
  rw [byteN_getLsbD _ _ _ hi, byteN_getLsbD _ _ _ hi, pack8_getLsbD _ _ _ (by omega)]
  interval_cases m
  · rw [if_pos (by omega), pack16_getLsbD _ _ _ (by omega), if_pos (by omega)]; rfl
  · rw [if_neg (by omega), pack16_getLsbD _ _ _ (by omega), if_pos (by omega), show 8 * 1 + i - 8 = 8 * 0 + i by omega]; rfl
  · rw [if_pos (by omega), pack16_getLsbD _ _ _ (by omega), if_neg (by omega), show 8 * 2 + i - 16 = 8 * 0 + i by omega]; rfl
  · rw [if_neg (by omega), pack16_getLsbD _ _ _ (by omega), if_neg (by omega), show 8 * 3 + i - 8 - 16 = 8 * 0 + i by omega]; rfl

theorem byteN_pack8_pack16_shr (a0 a1 a2 a3 : BitVec 32) (m : Nat) (hm : m < 4) :
    byteN m (pack8 (IntOp.shrsi .vector (pack16 a0 a2) 8#32) (IntOp.shrsi .vector (pack16 a1 a3) 8#32))
      = byteN 1 (pick m a0 a1 a2 a3) := by
  apply BitVec.eq_of_getLsbD_eq; intro i hi
  rw [byteN_getLsbD _ _ _ hi, byteN_getLsbD _ _ _ hi, pack8_getLsbD _ _ _ (by omega)]
  interval_cases m
  · rw [if_pos (by omega), sar_getLsbD _ 8 _ (by omega) (by omega), pack16_getLsbD _ _ _ (by omega), if_pos (by omega),
      show 8 + (8 * 0 + i) = 8 * 1 + i by omega]; rfl
  · rw [if_neg (by omega), sar_getLsbD _ 8 _ (by omega) (by omega), pack16_getLsbD _ _ _ (by omega), if_pos (by omega),
      show 8 + (8 * 1 + i - 8) = 8 * 1 + i by omega]; rfl
  · rw [if_pos (by omega), sar_getLsbD _ 8 _ (by omega) (by omega), pack16_getLsbD _ _ _ (by omega), if_neg (by omega),
      show 8 + (8 * 2 + i) - 16 = 8 * 1 + i by omega]; rfl
  · rw [if_neg (by omega), sar_getLsbD _ 8 _ (by omega) (by omega), pack16_getLsbD _ _ _ (by omega), if_neg (by omega),
      show 8 + (8 * 3 + i - 8) - 16 = 8 * 1 + i by omega]; rfl

theorem byteN_sar16 (x : BitVec 32) (k : Nat) (hk : k < 2) : byteN k (IntOp.shrsi .vector x 16#32) = byteN (k + 2) x := by
  apply BitVec.eq_of_getLsbD_eq; intro i hi
  rw [byteN_getLsbD _ _ _ hi, byteN_getLsbD _ _ _ hi, sar_getLsbD _ 16 _ (by omega) (by omega),
    show 16 + (8 * k + i) = 8 * (k + 2) + i by omega]

theorem pick_map {α β : Type} (f : α → β) (m : Nat) (a0 a1 a2 a3 : α) :
    pick m (f a0) (f a1) (f a2) (f a3) = f (pick m a0 a1 a2 a3) := by
  unfold pick; split <;> rfl

/-- Byte `m` of word `k` across is byte `k` of word `m`. -/
theorem byteN_bytesAcross (k m : Nat) (hk : k < 4) (hm : m < 4) (a0 a1 a2 a3 : BitVec 32) :
    byteN m (bytesAcross k a0 a1 a2 a3) = byteN k (pick m a0 a1 a2 a3) := by
  interval_cases k
  · exact byteN_pack8_pack16 _ _ _ _ m hm
  · exact byteN_pack8_pack16_shr _ _ _ _ m hm
  · refine (byteN_pack8_pack16 _ _ _ _ m hm).trans ?_
    rw [pick_map (fun x => IntOp.shrsi .vector x 16#32), byteN_sar16 _ 0 (by omega)]
  · refine (byteN_pack8_pack16_shr _ _ _ _ m hm).trans ?_
    rw [pick_map (fun x => IntOp.shrsi .vector x 16#32), byteN_sar16 _ 1 (by omega)]

/-- The word whose bytes are all ones where the low bit of the word's byte is set. -/
def spread (w : BitVec 32) : BitVec 32 := IntOp.shli .vector (w &&& 16843009#32) 8#32 - (w &&& 16843009#32)

theorem maskLow : ∀ i : Fin 32, (16843009#32).getLsbD i.val = decide (i.val % 8 = 0) := by decide

/-- Four bits at the bytes' low ends. -/
def lows (b0 b1 b2 b3 : Bool) : BitVec 32 :=
  (if b0 then 1#32 else 0#32) ||| (if b1 then 256#32 else 0#32) ||| (if b2 then 65536#32 else 0#32) ||| (if b3 then 16777216#32 else 0#32)

theorem lows_getLsbD : ∀ (b0 b1 b2 b3 : Bool) (i : Fin 32),
    (lows b0 b1 b2 b3).getLsbD i.val = (decide (i.val % 8 = 0) && pick (i.val / 8) b0 b1 b2 b3) := by decide

theorem and_lows (w : BitVec 32) :
    w &&& 16843009#32 = lows (w.getLsbD 0) (w.getLsbD 8) (w.getLsbD 16) (w.getLsbD 24) := by
  apply BitVec.eq_of_getLsbD_eq; intro i hi
  rw [BitVec.getLsbD_and, maskLow ⟨i, hi⟩, lows_getLsbD _ _ _ _ ⟨i, hi⟩, Bool.and_comm]
  by_cases h : i % 8 = 0
  · obtain ⟨k, rfl⟩ : ∃ k, i = 8 * k := ⟨i / 8, by omega⟩
    have hk : k < 4 := by omega
    interval_cases k <;> simp [pick]
  · simp [h]

theorem byteN_spread_lows : ∀ (b0 b1 b2 b3 : Bool) (m : Fin 4),
    byteN m.val (IntOp.shli .vector (lows b0 b1 b2 b3) 8#32 - lows b0 b1 b2 b3)
      = if pick m.val b0 b1 b2 b3 then 255#8 else 0#8 := by decide

theorem byteN_spread (w : BitVec 32) (m : Nat) (hm : m < 4) :
    byteN m (spread w) = if w.getLsbD (8 * m) then 255#8 else 0#8 := by
  unfold spread
  rw [and_lows, byteN_spread_lows _ _ _ _ ⟨m, hm⟩]
  interval_cases m <;> rfl

/-- The mask of bit `b` of each byte of the word. -/
def bitMask (b : Nat) (t : BitVec 32) : BitVec 32 :=
  spread (match b with | 0 => t | b + 1 => IntOp.shrsi .vector t (BitVec.ofNat 32 (b + 1)))

theorem byteN_bitMask (b : Nat) (hb : b < 8) (t : BitVec 32) (m : Nat) (hm : m < 4) :
    byteN m (bitMask b t) = if (byteN m t).getLsbD b then 255#8 else 0#8 := by
  unfold bitMask
  rw [byteN_spread _ _ hm, byteN_getLsbD _ _ _ hb]
  match b with
  | 0 => rfl
  | b + 1 =>
    rw [sar_getLsbD _ _ _ (by omega) (by omega), Nat.add_comm]

/-- The word of weights at place `p` of the group: `v0`, `v1` the kept ones, `t` the (flipped) places, `jj` the nibble. -/
def dense (jj p : Nat) (t v0 v1 : BitVec 32) : BitVec 32 :=
  match p with
  | 0 => v0 ^^^ (v0 &&& bitMask (4 * jj) t) ^^^ (v0 &&& bitMask (4 * jj + 1) t)
  | 1 => (v0 &&& bitMask (4 * jj) t) ||| (v1 &&& bitMask (4 * jj + 3) t)
  | 2 => (v0 &&& bitMask (4 * jj + 1) t) ||| (v1 &&& bitMask (4 * jj + 2) t)
  | _ => v1 ^^^ (v1 &&& bitMask (4 * jj + 3) t) ^^^ (v1 &&& bitMask (4 * jj + 2) t)

/-- The same of one byte. -/
def denseByte (p : Nat) (c0 c1 c2 c3 : Bool) (v0 v1 : BitVec 8) : BitVec 8 :=
  match p with
  | 0 => v0 ^^^ (v0 &&& if c0 then 255#8 else 0#8) ^^^ (v0 &&& if c1 then 255#8 else 0#8)
  | 1 => (v0 &&& if c0 then 255#8 else 0#8) ||| (v1 &&& if c3 then 255#8 else 0#8)
  | 2 => (v0 &&& if c1 then 255#8 else 0#8) ||| (v1 &&& if c2 then 255#8 else 0#8)
  | _ => v1 ^^^ (v1 &&& if c3 then 255#8 else 0#8) ^^^ (v1 &&& if c2 then 255#8 else 0#8)

theorem byteN_dense (jj p : Nat) (hjj : jj < 2) (t v0 v1 : BitVec 32) (m : Nat) (hm : m < 4) :
    byteN m (dense jj p t v0 v1)
      = denseByte p ((byteN m t).getLsbD (4 * jj)) ((byteN m t).getLsbD (4 * jj + 1)) ((byteN m t).getLsbD (4 * jj + 2))
          ((byteN m t).getLsbD (4 * jj + 3)) (byteN m v0) (byteN m v1) := by
  unfold dense denseByte
  split <;> simp only [byteN_xor, byteN_and, byteN_or, byteN_bitMask _ (show 4 * jj < 8 by omega) _ _ hm,
    byteN_bitMask _ (show 4 * jj + 1 < 8 by omega) _ _ hm, byteN_bitMask _ (show 4 * jj + 2 < 8 by omega) _ _ hm,
    byteN_bitMask _ (show 4 * jj + 3 < 8 by omega) _ _ hm]

/-- A place from its two bits. -/
def place (b0 b1 : Bool) : Nat := b0.toNat + 2 * b1.toNat

/-- With the first place below the second, the byte at place `p` is the kept one whose place is `p`, or nothing. -/
theorem denseByte_eq (p : Nat) (hp : p < 4) (b0 b1 b2 b3 : Bool) (h : place b0 b1 < place b2 b3) (v0 v1 : BitVec 8) :
    denseByte p b0 b1 (!b2) (!b3) v0 v1 = if place b0 b1 = p then v0 else if place b2 b3 = p then v1 else 0#8 := by
  have hall : v0 &&& 255#8 = v0 := by
    apply BitVec.eq_of_getLsbD_eq; intro i hi; rw [BitVec.getLsbD_and]; interval_cases i <;> simp
  have hall1 : v1 &&& 255#8 = v1 := by
    apply BitVec.eq_of_getLsbD_eq; intro i hi; rw [BitVec.getLsbD_and]; interval_cases i <;> simp
  interval_cases p <;> cases b0 <;> cases b1 <;> cases b2 <;> cases b3 <;>
    first
      | (exfalso; revert h; decide)
      | simp [denseByte, place, hall, hall1]

/-- The places word with the second place of every group flipped, one bit of it. -/
theorem flip_getLsbD (w : BitVec 32) (i : Nat) (hi : i < 32) :
    (w ^^^ 3435973836#32).getLsbD i = (if i / 2 % 2 = 0 then w.getLsbD i else !w.getLsbD i) := by
  have h : ∀ i : Fin 32, (3435973836#32).getLsbD i.val = !decide (i.val / 2 % 2 = 0) := by decide
  rw [BitVec.getLsbD_xor, h ⟨i, hi⟩]
  by_cases h : i / 2 % 2 = 0 <;> simp [h]

end Cert.KernelIdeal.Hand

end
-- ==== Proof.Value.Spec.lean ====
/- The result in numbers, as a function of a row, the weights of a column and the column's scales. -/
module

public import proofs.«01_k».proof.Proof.Value.Numbers
public import proofs.«01_k».proof.Proof.Ideal.Words
public import Idealize.ShloMosaic.Lib.Pointwise

@[expose] public section

noncomputable section

namespace Cert.Hand

open Idealize.ShloMosaic
open scoped BigOperators

/-- A row's codes. -/
def codeOf (f : Fin 2048 → EReal) (k : Fin 2048) : EReal :=
  min (Ideal.ofBits .f32 0x43E00000#32) (max (Ideal.ofBits .f32 0xC3E00000#32) (f k * pow2 (-expo (scaled f))))

/-- A row's scale. -/
def scaleOf (f : Fin 2048 → EReal) : EReal := pow2 (expo (scaled f))

/-- A row times a column of weights, with the two scales. -/
def zOf (f : Fin 2048 → EReal) (w : Fin 2048 → BitVec 8) (s : EReal) : EReal :=
  ((∑ k : Fin 2048, codeOf f k * Ideal.ofBits .fp8e4m3 (w k)) * scaleOf f) * s

/-- The gated product. -/
def hOf (g u : EReal) : EReal := g * Ideal.logistic g * u

/-- A place written in two bits of a word. -/
def placeAt (x : BitVec 32) (i : ℕ) : ℕ := Cert.KernelIdeal.Hand.place (x.getLsbD i) (x.getLsbD (i + 1))

/-- The weight at place `p` of group `j` of a word. -/
def weightOf (x : BitVec 32) (v0 v1 : BitVec 8) (j p : ℕ) : BitVec 8 :=
  if placeAt x (4 * j) = p then v0 else if placeAt x (4 * j + 2) = p then v1 else 0#8

/-- A column of weights. -/
def columnOf (x : Fin 64 → BitVec 32) (v : Fin 1024 → BitVec 8) (k : Fin 2048) : BitVec 8 :=
  weightOf (x ⟨k.val / 32, by omega⟩) (v ⟨16 * (k.val / 32) + 2 * (k.val / 4 % 8), by omega⟩)
    (v ⟨16 * (k.val / 32) + 2 * (k.val / 4 % 8) + 1, by omega⟩) (k.val / 4 % 8) (k.val % 4)

/-- The order of the products in the eight passes. -/
def passOrder : Fin 8 × Fin 256 ≃ Fin 2048 where
  toFun a := ⟨32 * (a.2.val % 64) + 4 * a.1.val + a.2.val / 64, by have := a.1.isLt; have := a.2.isLt; omega⟩
  invFun k := (⟨k.val / 4 % 8, by omega⟩, ⟨64 * (k.val % 4) + k.val / 32, by omega⟩)
  left_inv a := by
    obtain ⟨⟨j, hj⟩, ⟨kk, hk⟩⟩ := a
    have e0 : 32 * (kk % 64) + 4 * j + kk / 64 = 4 * (8 * (kk % 64) + j) + kk / 64 := by omega
    have e1 : (32 * (kk % 64) + 4 * j + kk / 64) / 4 = 8 * (kk % 64) + j := by rw [e0]; omega
    have e2 : (32 * (kk % 64) + 4 * j + kk / 64) % 4 = kk / 64 := by rw [e0]; omega
    have e3 : (32 * (kk % 64) + 4 * j + kk / 64) / 32 = kk % 64 := by omega
    refine Prod.ext (Fin.ext ?_) (Fin.ext ?_)
    · show (32 * (kk % 64) + 4 * j + kk / 64) / 4 % 8 = j; rw [e1]; omega
    · show 64 * ((32 * (kk % 64) + 4 * j + kk / 64) % 4) + (32 * (kk % 64) + 4 * j + kk / 64) / 32 = kk; rw [e2, e3]; omega
  right_inv k := by
    obtain ⟨k, hk⟩ := k
    have e1 : (64 * (k % 4) + k / 32) % 64 = k / 32 := by omega
    have e2 : (64 * (k % 4) + k / 32) / 64 = k % 4 := by omega
    refine Fin.ext ?_
    show 32 * ((64 * (k % 4) + k / 32) % 64) + 4 * (k / 4 % 8) + (64 * (k % 4) + k / 32) / 64 = k
    rw [e1, e2]; omega

/-- The eight passes' sums are the whole sum. -/
theorem sum_passes (f : Fin 2048 → EReal) :
    (∑ j : Fin 8, ∑ kk : Fin 256, f (passOrder (j, kk))) = ∑ k : Fin 2048, f k := by
  rw [← Fintype.sum_prod_type']
  exact Equiv.sum_comp passOrder f

end Cert.Hand

end
-- ==== Proof.Value.HostReads.lean ====
/- What the host lines before the two calls leave in the calls' operands. -/
module

public import proofs.«01_k».proof.Proof.Value.Spec
public import proofs.«01_k».proof.Proof.Gen.ReferenceIdeal.Frame
public import proofs.«01_k».proof.Proof.Gen.KernelIdeal.Frame
public import Idealize.ShloMosaic.Lib.StableHlo.ReadAt

@[expose] public section

set_option maxRecDepth 16384

noncomputable section

namespace Cert.Hand

open Idealize.ShloMosaic Idealize.ShloMosaic.TcCoe

theorem shifted (x : BitVec 32) (i : ℕ) (hi : i < 31) :
    IntOp.andi (IntOp.shrsi .host x (BitVec.ofNat 32 i)) 3#32 = BitVec.ofNat 32 (placeAt x i) := by
  have e : (BitVec.ofNat 32 i).toNat = i := by simp; omega
  have hs : IntOp.shrsi .host x (BitVec.ofNat 32 i) = x.sshiftRight i := by
    simp only [IntOp.shrsi, BitVec.sshiftRight', e, show i < 32 by omega, if_true]
  have key : ∀ b0 b1 : Bool, ∀ q : Fin 32, (BitVec.ofNat 32 (KernelIdeal.Hand.place b0 b1)).getLsbD q.val
      = if q.val = 0 then b0 else if q.val = 1 then b1 else false := by decide
  have three : ∀ q : Fin 32, (3#32).getLsbD q.val = decide (q.val < 2) := by decide
  rw [hs]
  refine BitVec.eq_of_getLsbD_eq fun q hq => ?_
  unfold placeAt
  rw [key _ _ ⟨q, hq⟩]
  show (x.sshiftRight i &&& 3#32).getLsbD q = _
  rw [BitVec.getLsbD_and, three ⟨q, hq⟩, BitVec.getLsbD_sshiftRight]
  dsimp only
  rcases Nat.lt_or_ge q 2 with h | h
  · interval_cases q
    · simp; omega
    · simp [show i + 1 < 32 by omega, Nat.add_comm]
  · simp [show ¬ q < 2 by omega, show q ≠ 0 by omega, show q ≠ 1 by omega]

theorem times_four : ∀ j : Fin 8, IntOp.muli (4#32) (BitVec.ofNat 32 j.val) = BitVec.ofNat 32 (4 * j.val) := by decide
theorem times_four_add : ∀ j : Fin 8, IntOp.addi (IntOp.muli (4#32) (BitVec.ofNat 32 j.val)) 2#32 = BitVec.ofNat 32 (4 * j.val + 2) := by decide

theorem place_lt (x : BitVec 32) (i : ℕ) : placeAt x i < 4 := by
  unfold placeAt KernelIdeal.Hand.place
  cases x.getLsbD i <;> cases x.getLsbD (i + 1) <;> decide

theorem place_word_inj : ∀ a b : Fin 4, IntOp.cmpi .eq (BitVec.ofNat 32 a.val) (BitVec.ofNat 32 b.val) = if a.val = b.val then 1#1 else 0#1 := by decide

theorem place_is (x : BitVec 32) (i p : ℕ) (hi : i < 31) (hp : p < 4) {α : Type} (a b : α) :
    Scalar.select (IntOp.cmpi .eq (IntOp.andi (IntOp.shrsi .host x (BitVec.ofNat 32 i)) 3#32) (BitVec.ofNat 32 p)) a b
      = if placeAt x i = p then a else b := by
  rw [shifted x i hi, place_word_inj ⟨placeAt x i, place_lt x i⟩ ⟨p, hp⟩]
  dsimp only
  by_cases h : placeAt x i = p
  · rw [if_pos h, if_pos h]; rfl
  · rw [if_neg h, if_neg h]; rfl

/-- One weight, as the host lines pick it. -/
theorem picked (x : BitVec 32) (j p : ℕ) (hj : j < 8) (hp : p < 4) (v0 v1 : BitVec 8) :
    Scalar.select (IntOp.cmpi .eq (IntOp.andi (IntOp.shrsi .host x (IntOp.muli (4#32) (BitVec.ofNat 32 j))) 3#32) (BitVec.ofNat 32 p)) v0
      (Scalar.select (IntOp.cmpi .eq (IntOp.andi (IntOp.shrsi .host x (IntOp.addi (IntOp.muli (4#32) (BitVec.ofNat 32 j)) 2#32)) 3#32) (BitVec.ofNat 32 p)) v1 0#8)
      = weightOf x v0 v1 j p := by
  rw [times_four_add ⟨j, hj⟩, times_four ⟨j, hj⟩, place_is _ _ _ (by dsimp only; omega) hp, place_is _ _ _ (by dsimp only; omega) hp]
  rfl

theorem kernel_x (m : (ℓ : Loc KernelIdeal.nD KernelIdeal.τ KernelIdeal.sig) → Buf (Elt Ideal) ℓ) (c : Dev KernelIdeal.nD) (r : Fin 1024) (k : Fin 2048) :
    KernelIdeal.Gen.V m c KernelIdeal.main_v0 (ix2 r k)
      = m ((c : Thread KernelIdeal.nD KernelIdeal.τ).loc KernelIdeal.main_arg0) (ix3 ⟨r.val / 256, by omega⟩ ⟨r.val % 256, by omega⟩ k) := by
  unfold KernelIdeal.Gen.V
  after_reads_at

theorem kernel_i (m : (ℓ : Loc KernelIdeal.nD KernelIdeal.τ KernelIdeal.sig) → Buf (Elt Ideal) ℓ) (c : Dev KernelIdeal.nD) (s : Fin 2) (wd : Fin 64) (n : Fin 5632) :
    KernelIdeal.Gen.V m c KernelIdeal.main_v1 (ix3 s wd n)
      = m ((c : Thread KernelIdeal.nD KernelIdeal.τ).loc KernelIdeal.main_arg2) (ix3 s n wd) := by
  unfold KernelIdeal.Gen.V
  after_reads_at

theorem reference_x (m : (ℓ : Loc ReferenceIdeal.nD ReferenceIdeal.τ ReferenceIdeal.sig) → Buf (Elt Ideal) ℓ) (c : Dev ReferenceIdeal.nD) (r : Fin 1024) (k : Fin 2048) :
    ReferenceIdeal.Gen.V m c ReferenceIdeal.main_v42 (ix2 r k)
      = m ((c : Thread ReferenceIdeal.nD ReferenceIdeal.τ).loc ReferenceIdeal.main_arg0) (ix3 ⟨r.val / 256, by omega⟩ ⟨r.val % 256, by omega⟩ k) := by
  unfold ReferenceIdeal.Gen.V
  after_reads_at

theorem reference_w (m : (ℓ : Loc ReferenceIdeal.nD ReferenceIdeal.τ ReferenceIdeal.sig) → Buf (Elt Ideal) ℓ) (c : Dev ReferenceIdeal.nD) (s : Fin 2) (n : Fin 5632) (k : Fin 2048) :
    ReferenceIdeal.Gen.V m c ReferenceIdeal.main_v41 (ix3 s n k)
      = columnOf (fun wd => m ((c : Thread ReferenceIdeal.nD ReferenceIdeal.τ).loc ReferenceIdeal.main_arg2) (ix3 s n wd))
          (fun b => m ((c : Thread ReferenceIdeal.nD ReferenceIdeal.τ).loc ReferenceIdeal.main_arg1) (ix3 s n b)) k := by
  unfold ReferenceIdeal.Gen.V
  after_reads_at
  refine (picked _ _ _ (Nat.mod_lt _ (by decide)) (Nat.mod_lt _ (by decide)) _ _).trans ?_
  unfold columnOf
  have key : ∀ (b b' : Fin 1024), b = b' → m (c, Proc.tc.devRef ReferenceIdeal.main_arg1) (ix3 s n b)
      = m ((c : Thread ReferenceIdeal.nD ReferenceIdeal.τ).loc ReferenceIdeal.main_arg1) (ix3 s n b') := by rintro _ _ rfl; rfl
  exact congrArg₂ (fun v0 v1 => weightOf (m ((c : Thread ReferenceIdeal.nD ReferenceIdeal.τ).loc ReferenceIdeal.main_arg2) (ix3 s n ⟨k.val / 32, by omega⟩)) v0 v1 (k.val / 4 % 8) (k.val % 4))
    (key _ _ (Fin.ext (by show k.val / 32 * 16 + k.val / 4 % 8 * 2 = 16 * (k.val / 32) + 2 * (k.val / 4 % 8); omega)))
    (key _ _ (Fin.ext (by show k.val / 32 * 16 + k.val / 4 % 8 * 2 + 1 = 16 * (k.val / 32) + 2 * (k.val / 4 % 8) + 1; omega)))

end Cert.Hand

end
-- ==== Proof.Ideal.Runs.lean ====
/- The body's branch conditions, its staging and scratch memrefs, and what the runs of the three cases share. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, k0_cond1, e0]
    word_cmp
   : ∀ t : Fin grid0.N, cond0_0 (grid0.coords t) ↔ t.val % 22 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 22 = 21 :=
  (fun t => by
    have ht : t.val < 22 := Nat.lt_of_lt_of_eq t.isLt N_0
    have e0 : (grid0.coords t 0).val = t.val / 1 % 22 := Pipeline.Grid.coords_val t 0 (by decide) rfl
    simp only [cond0_1, k0_cond2, e0]
    word_cmp
   : ∀ t : Fin grid0.N, cond0_1 (grid0.coords t) ↔ t.val % 22 = 21)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x5632 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x2048 .fp8e4m3 := Memref.whole cc0_scratch0
abbrev scM0_1 : Memref sig .tc .vmem S1024x128 .f32 := Memref.whole cc0_scratch1
abbrev scM0_2 : Memref sig .tc .vmem S2112x512 .f32 := Memref.whole cc0_scratch2
abbrev scM0_3 : Memref sig .tc .vmem S2x512x256 .i32 := Memref.whole cc0_scratch3
abbrev scM0_4 : Memref sig .tc .vmem S272x128 .i32 := Memref.whole cc0_scratch4
abbrev scM0_5 : Memref sig .tc .vmem S64x128 .i32 := Memref.whole cc0_scratch5
abbrev scM0_6 : Memref sig .tc .vmem S22x1024x256 .f32 := Memref.whole cc0_scratch6
abbrev scM0_7 : Memref sig .tc .vmem S1024x128 .f32 := Memref.whole cc0_scratch7
/-- The scratch `arg10` the kernel carries between points, as a view: what it holds is stated through it. -/
abbrev VS0_0 : View sig .tc .vmem S1024x2048 .fp8e4m3 := scM0_0.view
/-- The scratch `arg11` the kernel carries between points, as a view: what it holds is stated through it. -/
abbrev VS0_1 : View sig .tc .vmem S1024x128 .f32 := scM0_1.view
/-- The scratch `arg17` the kernel carries between points, as a view: what it holds is stated through it. -/
abbrev VS0_7 : View sig .tc .vmem S1024x128 .f32 := scM0_7.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Hand

end
-- ==== Proof.Ideal.RunA.lean ====
/- The kernel body run in case A (which of its two conditionals are taken). -/
module

public import proofs.«01_k».proof.Proof.Ideal.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11796000 in
/-- The whole body in case A: every buffer it stores into ends with the pieces this definition lists
    (last first), the output windows' among them. -/
noncomputable def runA (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : cond0_0 i) (hc1 : ¬cond0_1 i)
    (x0 : Vec F S1024x2048 .bf16) (x1 : Vec F S2x256x1024 .i8) (x2 : Vec F S2x64x256 .i32) (x3 : Vec F S2x256 .f32) :
    Σ' (LO4 : List (View.Piece (Elt F) S1024x256 .bf16)), Σ' (LO5 : List (View.Piece (Elt F) S1024x2048 .fp8e4m3)), Σ' (LO6 : List (View.Piece (Elt F) S4x1x256 .f32)), Σ' (LS6 : List (View.Piece (Elt F) S22x1024x256 .f32)), Σ' (LS0 : List (View.Piece (Elt F) S1024x2048 .fp8e4m3)), Σ' (LS1 : List (View.Piece (Elt F) S1024x128 .f32)), Σ' (LS7 : List (View.Piece (Elt F) S1024x128 .f32)), Σ' (LT2 : List (View.Piece (Elt F) S2112x512 .f32)), Σ' (LT3 : List (View.Piece (Elt F) S2x512x256 .i32)), Σ' (LT4 : List (View.Piece (Elt F) S272x128 .i32)), { LT5 : List (View.Piece (Elt F) S64x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO4) ∗ (∃ f, arg6.view.loc (c : Thread nD τ) ↦[arg6.view.set]{fullShare} arg6.view.writes (Elt F) f LO5) ∗ (∃ f, arg7.view.loc (c : Thread nD τ) ↦[arg7.view.set]{fullShare} arg7.view.writes (Elt F) f LO6) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ f, arg16.view.loc (c : Thread nD τ) ↦[arg16.view.set]{fullShare} arg16.view.writes (Elt F) f LS6) ∗ (∃ f, arg17.view.loc (c : Thread nD τ) ↦[arg17.view.set]{fullShare} arg17.view.writes (Elt F) f LS7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?_, fun E K => ?run⟩
  case run =>
    simp only [cc0__body_eq_skeleton]; unfold cc0__body_skel
    simp only [k0_part288_eq_skeleton, k0_part125_eq_skeleton, k0_part63_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part289_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part290_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.KernelIdeal.Hand

end
-- ==== Proof.Ideal.RunB.lean ====
/- The kernel body run in case B (which of its two conditionals are taken). -/
module

public import proofs.«01_k».proof.Proof.Ideal.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6784000 in
/-- The whole body in case B: every buffer it stores into ends with the pieces this definition lists
    (last first), the output windows' among them. -/
noncomputable def runB (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : ¬cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (xs6 : Vec F S22x1024x256 .f32) (x5 : Vec F S1024x2048 .fp8e4m3) (x6 : Vec F S4x1x256 .f32) :
    Σ' (LO4 : List (View.Piece (Elt F) S1024x256 .bf16)), Σ' (LS6 : List (View.Piece (Elt F) S22x1024x256 .f32)), Σ' (LS0 : List (View.Piece (Elt F) S1024x2048 .fp8e4m3)), Σ' (LS1 : List (View.Piece (Elt F) S1024x128 .f32)), Σ' (LS7 : List (View.Piece (Elt F) S1024x128 .f32)), Σ' (LT2 : List (View.Piece (Elt F) S2112x512 .f32)), Σ' (LT3 : List (View.Piece (Elt F) S2x512x256 .i32)), Σ' (LT4 : List (View.Piece (Elt F) S272x128 .i32)), { LT5 : List (View.Piece (Elt F) S64x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs6 ∗ owns (c : Thread nD τ) arg17 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO4) ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (arg16.view.loc (c : Thread nD τ) ↦[arg16.view.set]{fullShare} arg16.view.writes (Elt F) (harg16.unread xs6) LS6) ∗ (∃ f, arg17.view.loc (c : Thread nD τ) ↦[arg17.view.set]{fullShare} arg17.view.writes (Elt F) f LS7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, [], ?_, ?_, ?_, fun E K => ?run⟩
  case run =>
    simp only [cc0__body_eq_skeleton]; unfold cc0__body_skel
    simp only [k0_part288_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part289_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part290_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1; obtain rfl := harg17.eq_unread hfs7; obtain rfl := harg16.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; swap; · iexact H5
      ipureintro; exact hf5
    isplitl [H6]
    · iexists _; isplitr; swap; · iexact H6
      ipureintro; exact hf6
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _; isplitr; · ipureintro; exact harg11.read_unread _
      iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]; · iexact HS6
    iexists _; iexact HS7

end Cert.KernelIdeal.Hand

end
-- ==== Proof.Ideal.RunC.lean ====
/- The kernel body run in case C (which of its two conditionals are taken). -/
module

public import proofs.«01_k».proof.Proof.Ideal.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 9656000 in
/-- The whole body in case C: every buffer it stores into ends with the pieces this definition lists
    (last first), the output windows' among them. -/
noncomputable def runC (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole) (hc0 : ¬cond0_0 i) (hc1 : cond0_1 i)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (xs6 : Vec F S22x1024x256 .f32) (x5 : Vec F S1024x2048 .fp8e4m3) (x6 : Vec F S4x1x256 .f32) :
    Σ' (LO4 : List (View.Piece (Elt F) S1024x256 .bf16)), Σ' (LO7 : List (View.Piece (Elt F) S1024x5632 .fp8e4m3)), Σ' (LO8 : List (View.Piece (Elt F) S4x1x256 .f32)), Σ' (LS6 : List (View.Piece (Elt F) S22x1024x256 .f32)), Σ' (LS0 : List (View.Piece (Elt F) S1024x2048 .fp8e4m3)), Σ' (LS1 : List (View.Piece (Elt F) S1024x128 .f32)), Σ' (LS7 : List (View.Piece (Elt F) S1024x128 .f32)), Σ' (LT2 : List (View.Piece (Elt F) S2112x512 .f32)), Σ' (LT3 : List (View.Piece (Elt F) S2x512x256 .i32)), Σ' (LT4 : List (View.Piece (Elt F) S272x128 .i32)), { LT5 : List (View.Piece (Elt F) S64x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs6 ∗ owns (c : Thread nD τ) arg17 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO4) ∗ owns (c : Thread nD τ) arg6 fullShare x5 ∗ owns (c : Thread nD τ) arg7 fullShare x6 ∗ (∃ f, arg8.view.loc (c : Thread nD τ) ↦[arg8.view.set]{fullShare} arg8.view.writes (Elt F) f LO7) ∗ (∃ f, arg9.view.loc (c : Thread nD τ) ↦[arg9.view.set]{fullShare} arg9.view.writes (Elt F) f LO8) ∗ owns (c : Thread nD τ) arg10 fullShare xs0 ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LT5) ∗ (∃ d, owns (c : Thread nD τ) arg16 fullShare d) ∗ (∃ f, arg17.view.loc (c : Thread nD τ) ↦[arg17.view.set]{fullShare} arg17.view.writes (Elt F) f LS7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], [], [], ?_, [], ?_, ?_, ?_, fun E K => ?run⟩
  case run =>
    simp only [cc0__body_eq_skeleton]; unfold cc0__body_skel
    simp only [k0_part288_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part289_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part290_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part124_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg10.eq_unread hfs0; obtain rfl := harg11.eq_unread hfs1; obtain rfl := harg17.eq_unread hfs7; obtain rfl := harg16.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; swap; · iexact H5
      ipureintro; exact hf5
    isplitl [H6]
    · iexists _; isplitr; swap; · iexact H6
      ipureintro; exact hf6
    isplitl [H7]; · iexists _; iexact H7
    isplitl [H8]; · iexists _; iexact H8
    isplitl [HS0]
    · iexists _; isplitr; · ipureintro; exact harg10.read_unread _
      iexact HS0
    isplitl [HS1]
    · iexists _; isplitr; · ipureintro; exact harg11.read_unread _
      iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]
    · iexists _, _; isplitr; swap; · iexact HS6
      ipureintro; rfl
    iexists _; iexact HS7

end Cert.KernelIdeal.Hand

end
-- ==== Proof.Ideal.Lists.lean ====
/- The lists of pieces the body leaves in the scratch of the weights, written by their structure: stage by stage
   (`s`, `nb`), block by block (`gb`), byte by byte (`q`), nibble by nibble (`jj`), place by place (`p`). -/
module

public import proofs.«01_k».proof.Proof.Ideal.RunA
public import proofs.«01_k».proof.Proof.Ideal.RunB
public import proofs.«01_k».proof.Proof.Ideal.RunC

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

theorem vt_inb_load (s nb : Fin 2) (t : Fin 16) :
    ∀ a, (![s.val, 128 * nb.val, 128 * (t.val / 2)] : Fin 3 → Nat) a + S1x128x128.size a ≤ S2x256x1024.size a := by
  intro a; fin_cases a <;> simp [S1x128x128, S2x256x1024, Shape.size] <;> omega

theorem vt_slices (h : Fin 2) : S32x128.Slices ![16 * h.val, 0] S16x128 := by
  fin_cases h
  · exact slices_S32x128_o0_0_S16x128
  · exact slices_S32x128_o16_0_S16x128

theorem vt_inb (t : Fin 16) : ∀ a, (![17 * t.val, 0] : Fin 2 → Nat) a + S16x128.size a ≤ S272x128.size a := by
  intro a; fin_cases a <;> simp [S16x128, S272x128, Shape.size] <;> omega

theorem it_inb_load (s nb : Fin 2) :
    ∀ a, (![s.val, 0, 128 * nb.val] : Fin 3 → Nat) a + S1x64x128.size a ≤ S2x64x256.size a := by
  intro a; fin_cases a <;> simp [S1x64x128, S2x64x256, Shape.size] <;> omega

theorem it_inb : ∀ a, (![0, 0] : Fin 2 → Nat) a + S64x128.size a ≤ S64x128.size a := by
  intro a; fin_cases a <;> simp [S64x128, Shape.size]

theorem vl_inb (gb : Fin 2) (m q : Fin 4) : ∀ a, S8x128.size a = 0 ∨
    (![17 * (8 * gb.val) + 4 * m.val + q.val, 0] : Fin 2 → Nat) a + (![17, 1] : Fin 2 → Nat) a * (S8x128.size a - 1) < S272x128.size a := by
  intro a; fin_cases a <;> simp [S8x128, S272x128, Shape.size] <;> omega

theorem il_inb (gb : Fin 2) (m : Fin 4) : ∀ a, S8x128.size a = 0 ∨
    (![32 * gb.val + m.val, 0] : Fin 2 → Nat) a + (![4, 1] : Fin 2 → Nat) a * (S8x128.size a - 1) < S64x128.size a := by
  intro a; fin_cases a <;> simp [S8x128, S64x128, Shape.size] <;> omega

theorem w_inb (s nb gb jj : Fin 2) (q p : Fin 4) :
    ∀ a, (![s.val, 64 * (2 * q.val + jj.val) + 16 * p.val + 8 * gb.val, 128 * nb.val] : Fin 3 → Nat) a + S1x8x128.size a
      ≤ S2x512x256.size a := by
  intro a; fin_cases a <;> simp [S1x8x128, S2x512x256, Shape.size] <;> omega

/-- A word shifted right, everywhere. -/
def shrV (x : IVec S8x128 32) (n : Nat) : IVec S8x128 32 := shrsi x (broadcast S8x128 (BitVec.ofNat 32 n))

/-- The even bytes of two words, interleaved, everywhere. -/
def pack8V (a b : IVec S8x128 32) : IVec S8x128 32 :=
  ori (andi a (broadcast S8x128 16711935#32)) (shli (andi b (broadcast S8x128 16711935#32)) (broadcast S8x128 8#32))

/-- Word `k` of the four that hold byte `k` of each of four words, everywhere. -/
def bytesAcrossV (k : Nat) (a : Fin 4 → IVec S8x128 32) : IVec S8x128 32 :=
  match k with
  | 0 => pack8V (packElementwiseI16 (a 0) (a 2)) (packElementwiseI16 (a 1) (a 3))
  | 1 => pack8V (shrV (packElementwiseI16 (a 0) (a 2)) 8) (shrV (packElementwiseI16 (a 1) (a 3)) 8)
  | 2 => pack8V (packElementwiseI16 (shrV (a 0) 16) (shrV (a 2) 16)) (packElementwiseI16 (shrV (a 1) 16) (shrV (a 3) 16))
  | _ => pack8V (shrV (packElementwiseI16 (shrV (a 0) 16) (shrV (a 2) 16)) 8) (shrV (packElementwiseI16 (shrV (a 1) 16) (shrV (a 3) 16)) 8)

/-- The mask of bit `b` of each byte, everywhere. -/
def bitMaskV (b : Nat) (t : IVec S8x128 32) : IVec S8x128 32 :=
  let w := andi (match b with | 0 => t | b + 1 => shrV t (b + 1)) (broadcast S8x128 16843009#32)
  subi (shli w (broadcast S8x128 8#32)) w

/-- The words of weights at place `p`, everywhere. -/
def denseV (jj p : Nat) (t v0 v1 : IVec S8x128 32) : IVec S8x128 32 :=
  match p with
  | 0 => xori (xori v0 (andi v0 (bitMaskV (4 * jj) t))) (andi v0 (bitMaskV (4 * jj + 1) t))
  | 1 => ori (andi v0 (bitMaskV (4 * jj) t)) (andi v1 (bitMaskV (4 * jj + 3) t))
  | 2 => ori (andi v0 (bitMaskV (4 * jj + 1) t)) (andi v1 (bitMaskV (4 * jj + 2) t))
  | _ => xori (xori v1 (andi v1 (bitMaskV (4 * jj + 3) t))) (andi v1 (bitMaskV (4 * jj + 2) t))

section
variable (arg2 : Memref sig .tc .vmem S2x256x1024 .i8) (harg2 : arg2.IsWhole) (arg3 : Memref sig .tc .vmem S2x64x256 .i32)
  (harg3 : arg3.IsWhole) (arg14 : Memref sig .tc .vmem S272x128 .i32) (arg15 : Memref sig .tc .vmem S64x128 .i32)
  (x1 : Vec F S2x256x1024 .i8) (x2 : Vec F S2x64x256 .i32)

/-- Sixteen rows of the words of kept weights. -/
def vtPay (s nb : Fin 2) (t : Fin 16) : IVec S16x128 32 :=
  shapeCast S16x128 (extractStridedSlice S16x128 ![16 * (t.val % 2), 0]
    (bitcast S32x128 32 (transpose S128x128 [1, 0] (shapeCast S128x128
      (View.readAt (Elt F) arg2.view (Rect.unit (s := S2x256x1024) ![s.val, 128 * nb.val, 128 * (t.val / 2)] S1x128x128.size (vt_inb_load s nb t)).toLoadRect
        (harg2.unread x1)) shapeCasts_S1x128x128_S128x128) transposes_S128x128_p1_0_S128x128) bitcasts_S128x128_w8_S32x128_w32)
    (vt_slices ⟨t.val % 2, Nat.mod_lt _ (by decide)⟩)) shapeCasts_S16x128_S16x128

/-- The pieces of the kept weights at stage (`s`, `nb`), last first. -/
def vtStage (s nb : Fin 2) : List (View.Piece (Elt F) S272x128 .i32) :=
  (List.finRange 16).reverse.map fun t => ⟨Rect.unit ![17 * t.val, 0] S16x128.size (vt_inb t), vtPay arg2 harg2 x1 s nb t⟩

/-- The pieces of the first `g` stages. -/
def vtUpTo : Nat → List (View.Piece (Elt F) S272x128 .i32)
  | 0 => []
  | g + 1 => vtStage arg2 harg2 x1 ⟨g / 2 % 2, Nat.mod_lt _ (by decide)⟩ ⟨g % 2, Nat.mod_lt _ (by decide)⟩ ++ vtUpTo g

/-- The flipped places at stage (`s`, `nb`). -/
def itPay (s nb : Fin 2) : IVec S64x128 32 :=
  shapeCast S64x128 (xori (shapeCast S64x128
    (View.readAt (Elt F) arg3.view (Rect.unit (s := S2x64x256) ![s.val, 0, 128 * nb.val] S1x64x128.size (it_inb_load s nb)).toLoadRect (harg3.unread x2))
    shapeCasts_S1x64x128_S64x128) (broadcast S64x128 3435973836#32)) shapeCasts_S64x128_S64x128

def itUpTo : Nat → List (View.Piece (Elt F) S64x128 .i32)
  | 0 => []
  | g + 1 => ⟨Rect.unit ![0, 0] S64x128.size it_inb, itPay arg3 harg3 x2 ⟨g / 2 % 2, Nat.mod_lt _ (by decide)⟩ ⟨g % 2, Nat.mod_lt _ (by decide)⟩⟩
      :: itUpTo g

/-- Every seventeenth row of kept weights. -/
def vLoad (s nb gb : Fin 2) (m q : Fin 4) : IVec S8x128 32 :=
  arg14.view.readCov (vtUpTo arg2 harg2 x1 (2 * s.val + nb.val + 1))
    ⟨![17 * (8 * gb.val) + 4 * m.val + q.val, 0], S8x128.size, ![17, 1], vl_inb gb m q⟩

/-- Every fourth row of places. -/
def iLoad (s nb gb : Fin 2) (m : Fin 4) : IVec S8x128 32 :=
  arg15.view.readCov (itUpTo arg3 harg3 x2 (2 * s.val + nb.val + 1)) ⟨![32 * gb.val + m.val, 0], S8x128.size, ![4, 1], il_inb gb m⟩

/-- One piece of the weights. -/
def wPiece (s nb gb : Fin 2) (q : Fin 4) (jj : Fin 2) (p : Fin 4) : View.Piece (Elt F) S2x512x256 .i32 :=
  ⟨Rect.unit ![s.val, 64 * (2 * q.val + jj.val) + 16 * p.val + 8 * gb.val, 128 * nb.val] S1x8x128.size (w_inb s nb gb jj q p),
    shapeCast S1x8x128 (denseV jj.val p.val (bytesAcrossV q.val (iLoad arg3 harg3 arg15 x2 s nb gb))
      (bytesAcrossV (2 * jj.val) (fun m => vLoad arg2 harg2 arg14 x1 s nb gb m q))
      (bytesAcrossV (2 * jj.val + 1) (fun m => vLoad arg2 harg2 arg14 x1 s nb gb m q))) shapeCasts_S8x128_S1x8x128⟩

/-- All pieces of the weights, last first. -/
def wPieces : List (View.Piece (Elt F) S2x512x256 .i32) :=
  (List.finRange 2).reverse.flatMap fun s => (List.finRange 2).reverse.flatMap fun nb => (List.finRange 2).reverse.flatMap fun gb =>
    (List.finRange 4).reverse.flatMap fun q => (List.finRange 2).reverse.flatMap fun jj => (List.finRange 4).reverse.map fun p =>
      wPiece arg2 harg2 arg3 harg3 arg14 arg15 x1 x2 s nb gb q jj p

variable (c : Dev nD)

theorem vtB : runB.sl.HS4_64 c arg2 harg2 x1 = vtUpTo arg2 harg2 x1 4 := by sl_kernel_rfl
theorem itB : runB.sl.HS5_4 c arg3 harg3 x2 = itUpTo arg3 harg3 x2 4 := by sl_kernel_rfl

theorem wB : runB.sl.HS3_256 c arg2 harg2 arg3 harg3 arg14 arg15 x1 x2 = wPieces arg2 harg2 arg3 harg3 arg14 arg15 x1 x2 := by
  sl_kernel_rfl
theorem wA : runA.sl.HS3_256 c arg2 harg2 arg3 harg3 arg14 arg15 x1 x2 = wPieces arg2 harg2 arg3 harg3 arg14 arg15 x1 x2 := by
  sl_kernel_rfl
theorem wC : runC.sl.HS3_256 c arg2 harg2 arg3 harg3 arg14 arg15 x1 x2 = wPieces arg2 harg2 arg3 harg3 arg14 arg15 x1 x2 := by
  sl_kernel_rfl

end

end Cert.KernelIdeal.Hand

end
-- ==== Proof.Ideal.Blocks.lean ====
/- The lists of pieces the body leaves in the quantised rows, their scales, their transposed copy and the result's
   block, written by their structure. -/
module

public import proofs.«01_k».proof.Proof.Ideal.Lists

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! ## One block of the result -/

/-- One pass of a product: the words of weights read as numbers, times the rows. -/
def passV (A : Vec F S256x256 .fp8e4m3) (W : Vec F S1x64x256 .i32) : FVec F S256x256 .f32 :=
  matmul dot_S256x256_S256x256_S256x256_1_0_0_1_n_n none A
    (bitcastToFloat .fp8e4m3 (bitcast S256x256 8 (shapeCast S64x256 W shapeCasts_S1x64x256_S64x256) bitcasts_S64x256_w32_S256x256_w8))
    (constant S256x256 .f32 0x00000000#32)

/-- The eight passes added up. -/
def accV (A : Fin 8 → Vec F S256x256 .fp8e4m3) (W : Fin 8 → Vec F S1x64x256 .i32) : FVec F S256x256 .f32 :=
  addf (addf (addf (addf (addf (addf (addf (passV (A 0) (W 0)) (passV (A 1) (W 1))) (passV (A 2) (W 2))) (passV (A 3) (W 3)))
    (passV (A 4) (W 4))) (passV (A 5) (W 5))) (passV (A 6) (W 6))) (passV (A 7) (W 7))

/-- The product with its two scales. -/
def zV (a : FVec F S256x256 .f32) (SC : Vec F S256x128 .f32) (w : Vec F S1x256 .f32) : FVec F S256x256 .f32 :=
  mulf (mulf a (concatenate S256x256 1 [⟨S256x128, SC⟩, ⟨S256x128, SC⟩] concatenates_S256x128_S256x128_S256x256_d1))
    (broadcastTo S256x256 w broadcasts_S1x256_S256x256)

/-- The gated product. -/
def gateV (g u : FVec F S256x256 .f32) : FVec F S256x256 .f32 :=
  mulf (mulf g (divf (broadcast S256x256 (Scalar.ofBits .f32 0x3F800000#32))
    (addf (broadcast S256x256 (Scalar.ofBits .f32 0x3F800000#32)) (exp (subf (broadcast S256x256 (Scalar.ofBits .f32 0x00000000#32)) g))))) u

/-- The result's block of 256 rows. -/
def hV (A : Fin 8 → Vec F S256x256 .fp8e4m3) (W : Fin 2 → Fin 8 → Vec F S1x64x256 .i32) (SC : Vec F S256x128 .f32)
    (w : Fin 2 → Vec F S1x256 .f32) : FVec F S256x256 .bf16 :=
  truncf .bf16 (gateV (zV (accV A (W 0)) SC (w 0)) (zV (accV A (W 1)) SC (w 1))) bitsLt_bf16_f32

theorem h_inb (c : Fin 4) : ∀ a, (![256 * c.val, 0] : Fin 2 → Nat) a + S256x256.size a ≤ S1024x256.size a := by
  intro a; fin_cases a <;> simp [S256x256, S1024x256, Shape.size] <;> omega

theorem xp_inb_load (c : Fin 4) (j : Fin 8) :
    ∀ a, (![256 * c.val, 256 * j.val] : Fin 2 → Nat) a + S256x256.size a ≤ S1024x2048.size a := by
  intro a; fin_cases a <;> simp [S256x256, S1024x2048, Shape.size] <;> omega

theorem sc_inb_load (c : Fin 4) : ∀ a, (![256 * c.val, 0] : Fin 2 → Nat) a + S256x128.size a ≤ S1024x128.size a := by
  intro a; fin_cases a <;> simp [S256x128, S1024x128, Shape.size] <;> omega

theorem w_inb_load (s : Fin 2) (j : Fin 8) :
    ∀ a, (![s.val, 64 * j.val, 0] : Fin 3 → Nat) a + S1x64x256.size a ≤ S2x512x256.size a := by
  intro a; fin_cases a <;> simp [S1x64x256, S2x512x256, Shape.size] <;> omega

theorem ws_inb_load (s : Fin 2) : ∀ a, (![s.val, 0] : Fin 2 → Nat) a + S1x256.size a ≤ S2x256.size a := by
  intro a; fin_cases a <;> simp [S1x256, S2x256, Shape.size] <;> omega

/-- Where the rows of a pass are read. -/
def xpRect (c : Fin 4) (j : Fin 8) : LoadRect S1024x2048 := (Rect.unit (s := S1024x2048) ![256 * c.val, 256 * j.val] S256x256.size (xp_inb_load c j)).toLoadRect
/-- Where the scales of a block are read. -/
def scRect (c : Fin 4) : LoadRect S1024x128 := (Rect.unit (s := S1024x128) ![256 * c.val, 0] S256x128.size (sc_inb_load c)).toLoadRect
/-- Where the words of a pass are read. -/
def wRect (s : Fin 2) (j : Fin 8) : LoadRect S2x512x256 := (Rect.unit (s := S2x512x256) ![s.val, 64 * j.val, 0] S1x64x256.size (w_inb_load s j)).toLoadRect
/-- Where the scales of the columns are read. -/
def wsRect (s : Fin 2) : LoadRect S2x256 := (Rect.unit (s := S2x256) ![s.val, 0] S1x256.size (ws_inb_load s)).toLoadRect

/-- The result's pieces, last first. -/
def hPieces (A : Fin 4 → Fin 8 → Vec F S256x256 .fp8e4m3) (W : Fin 2 → Fin 8 → Vec F S1x64x256 .i32)
    (SC : Fin 4 → Vec F S256x128 .f32) (w : Fin 2 → Vec F S1x256 .f32) : List (View.Piece (Elt F) S1024x256 .bf16) :=
  (List.finRange 4).reverse.map fun c => ⟨Rect.unit ![256 * c.val, 0] S256x256.size (h_inb c), hV (A c) W (SC c) w⟩

/-! ## The quantised rows -/

theorem x_inb (r : Fin 8) : ∀ a, (![128 * r.val, 0] : Fin 2 → Nat) a + S128x2048.size a ≤ S1024x2048.size a := by
  intro a; fin_cases a <;> simp [S128x2048, S1024x2048, Shape.size] <;> omega

theorem xsb_inb (r : Fin 8) : ∀ a, (![128 * r.val, 0] : Fin 2 → Nat) a + S128x128.size a ≤ S1024x128.size a := by
  intro a; fin_cases a <;> simp [S128x128, S1024x128, Shape.size] <;> omega

theorem xs_inb (r : Fin 8) : ∀ a, (![r.val / 2, 0, 128 * (r.val % 2)] : Fin 3 → Nat) a + S1x1x128.size a ≤ S4x1x256.size a := by
  intro a; fin_cases a <;> simp [S1x1x128, S4x1x256, Shape.size] <;> omega

theorem xt_inb_load (c : Fin 2) (kb : Fin 16) :
    ∀ a, (![512 * c.val, 128 * kb.val] : Fin 2 → Nat) a + S512x128.size a ≤ S1024x2048.size a := by
  intro a; fin_cases a <;> simp [S512x128, S1024x2048, Shape.size] <;> omega

theorem xt_inb (kb : Fin 16) (g : Fin 4) : ∀ a, (![33 * (4 * kb.val + g.val), 0] : Fin 2 → Nat) a + S32x512.size a ≤ S2112x512.size a := by
  intro a; fin_cases a <;> simp [S32x512, S2112x512, Shape.size] <;> omega

theorem xt_slices (g : Fin 4) : S128x512.Slices ![32 * g.val, 0] S32x512 := by
  fin_cases g
  · exact slices_S128x512_o0_0_S32x512
  · exact slices_S128x512_o32_0_S32x512
  · exact slices_S128x512_o64_0_S32x512
  · exact slices_S128x512_o96_0_S32x512

theorem xp_inb (c : Fin 2) (j : Fin 8) (h : Fin 2) :
    ∀ a, (![512 * c.val, 256 * j.val + 128 * h.val] : Fin 2 → Nat) a + S512x128.size a ≤ S1024x2048.size a := by
  intro a; fin_cases a <;> simp [S512x128, S1024x2048, Shape.size] <;> omega

theorem xl_inb (j : Fin 8) (h : Fin 2) (i : Fin 16) : ∀ a, S8x512.size a = 0 ∨
    (![33 * 8 * (i.val % 8) + 4 * j.val + 2 * h.val + i.val / 8, 0] : Fin 2 → Nat) a + (![33, 1] : Fin 2 → Nat) a * (S8x512.size a - 1)
      < S2112x512.size a := by
  intro a; fin_cases a <;> simp [S8x512, S2112x512, Shape.size] <;> omega

section
variable (arg1 : Memref sig .tc .vmem S1024x2048 .bf16) (harg1 : arg1.IsWhole) (arg6 : Memref sig .tc .vmem S1024x2048 .fp8e4m3)
  (arg12 : Memref sig .tc .vmem S2112x512 .f32) (x0 : Vec F S1024x2048 .bf16)

/-- 128 rows of the input. -/
def xRows (r : Fin 8) : Vec F S128x2048 .bf16 :=
  View.readAt (Elt F) arg1.view (Rect.unit (s := S1024x2048) ![128 * r.val, 0] S128x2048.size (x_inb r)).toLoadRect (harg1.unread x0)

/-- The codes' pieces. -/
def xcPieces : List (View.Piece (Elt F) S1024x2048 .fp8e4m3) :=
  (List.finRange 8).reverse.map fun r => ⟨Rect.unit ![128 * r.val, 0] S128x2048.size (x_inb r),
    k0_pay8 (k0_pay7 (xRows arg1 harg1 x0 r)) (FloatOps.ofBits .f32 3286237184#32)⟩

/-- The scales' pieces, along a row. -/
def xsbPieces : List (View.Piece (Elt F) S1024x128 .f32) :=
  (List.finRange 8).reverse.map fun r => ⟨Rect.unit ![128 * r.val, 0] S128x128.size (xsb_inb r), k0_pay10 (k0_pay6 (xRows arg1 harg1 x0 r))⟩

/-- The scales' pieces. -/
def xsPieces : List (View.Piece (Elt F) S4x1x256 .f32) :=
  (List.finRange 8).reverse.map fun r => ⟨Rect.unit ![r.val / 2, 0, 128 * (r.val % 2)] S1x1x128.size (xs_inb r),
    k0_pay11 (k0_pay6 (xRows arg1 harg1 x0 r))⟩

/-- The transposed codes' pieces of half `c`. -/
def xtHalf (c : Fin 2) : List (View.Piece (Elt F) S2112x512 .f32) :=
  (List.finRange 16).reverse.flatMap fun kb => (List.finRange 4).reverse.map fun g =>
    ⟨Rect.unit ![33 * (4 * kb.val + g.val), 0] S32x512.size (xt_inb kb g),
      shapeCast S32x512 (extractStridedSlice S32x512 ![32 * g.val, 0] (k0_pay255
        (arg6.view.readCov (xcPieces arg1 harg1 x0) (Rect.unit (s := S1024x2048) ![512 * c.val, 128 * kb.val] S512x128.size (xt_inb_load c kb)).toLoadRect))
        (xt_slices g)) shapeCasts_S32x512_S32x512⟩

def xtUpTo : Nat → List (View.Piece (Elt F) S2112x512 .f32)
  | 0 => []
  | c + 1 => xtHalf arg1 harg1 arg6 x0 ⟨c % 2, Nat.mod_lt _ (by decide)⟩ ++ xtUpTo c

/-- Eight rows of the transposed codes. -/
def xLoad (c : Fin 2) (j : Fin 8) (h : Fin 2) (i : Fin 16) : Vec F S8x512 .f32 :=
  arg12.view.readCov (xtUpTo arg1 harg1 arg6 x0 (c.val + 1))
    ⟨![33 * 8 * (i.val % 8) + 4 * j.val + 2 * h.val + i.val / 8, 0], S8x512.size, ![33, 1], xl_inb j h i⟩

theorem xp_concatenates : Shape.Concatenates ((List.ofFn fun _ : Fin 16 => S8x512)) S128x512 0 := by decide

/-- The codes in the order of the passes, pieces of them. -/
def xpPieces : List (View.Piece (Elt F) S1024x2048 .fp8e4m3) :=
  (List.finRange 2).reverse.flatMap fun c => (List.finRange 8).reverse.flatMap fun j => (List.finRange 2).reverse.map fun h =>
    ⟨Rect.unit ![512 * c.val, 256 * j.val + 128 * h.val] S512x128.size (xp_inb c j h),
      shapeCast S512x128 (truncf .fp8e4m3 (transpose S512x128 [1, 0]
        (concatenate S128x512 0 (List.ofFn fun i : Fin 16 => ⟨S8x512, xLoad arg1 harg1 arg6 arg12 x0 c j h i⟩) xp_concatenates)
        transposes_S128x512_p1_0_S512x128) bitsLt_fp8e4m3_f32) shapeCasts_S512x128_S512x128⟩

variable (c : Dev nD)

theorem xcA : runA.sl.H5_8 c arg1 harg1 x0 = xcPieces arg1 harg1 x0 := by sl_kernel_rfl
theorem xsbA : runA.sl.HS1_8 c arg1 harg1 x0 = xsbPieces arg1 harg1 x0 := by sl_kernel_rfl
theorem xtA : runA.sl.HS2_128 c arg1 harg1 arg6 x0 = xtUpTo arg1 harg1 arg6 x0 2 := by sl_kernel_rfl
theorem xpA : runA.sl.HS0_32 c arg1 harg1 arg6 arg12 x0 = xpPieces arg1 harg1 arg6 arg12 x0 := by sl_kernel_rfl

end

end Cert.KernelIdeal.Hand

end
-- ==== Proof.Value.KernelBlock.lean ====
/- A block of the kernel's result, in numbers. -/
module

public import proofs.«01_k».proof.Proof.Value.Spec
public import proofs.«01_k».proof.Proof.Ideal.Blocks
public import Idealize.ShloMosaic.Lib.BitcastPair
public import Idealize.ShloMosaic.Lib.BitcastFour

@[expose] public section

set_option maxRecDepth 16384

noncomputable section

namespace Cert.Hand

open Idealize.ShloMosaic Idealize.ShloMosaic.TcCoe
open Cert.KernelIdeal Cert.KernelIdeal.Gen Cert.KernelIdeal.Hand
open scoped BigOperators

theorem byteN_lt (m : ℕ) (x : BitVec 32) (q : ℕ) (hq : q < 8) : (byteN m x).getLsbD q = x.getLsbD (8 * m + q) := by
  unfold byteN
  simp [hq]

theorem bytes_apply (x : IVec S64x256 32) (kk n : Fin 256) :
    bitcast S256x256 8 x bitcasts_S64x256_w32_S256x256_w8 (ix2 kk n) = byteN (kk.val % 4) (x (ix2 ⟨kk.val / 4, by omega⟩ n)) := by
  refine BitVec.eq_of_getLsbD_eq fun q hq => ?_
  rw [bitcast_getLsbD x _ _ q hq (by decide), byteN_lt _ _ _ hq]
  have key : ∀ (a a' : S64x256.Idx) (b b' : ℕ), a = a' → b = b' → (x a).getLsbD b = (x a').getLsbD b' := by
    rintro _ _ _ _ rfl rfl; rfl
  refine key _ _ _ _ (funext (Fin.forall_fin_two.mpr ⟨Fin.ext ?_, Fin.ext ?_⟩)) ?_
  · show (kk.val * 8 + q) / 32 = kk.val / 4; omega
  · rfl
  · show (kk.val * 8 + q) % 32 = 8 * (kk.val % 4) + q; omega

theorem dot_apply (A B : FVec Ideal S256x256 .fp8e4m3) (i n : Fin 256) :
    matmul (F := Ideal) dot_S256x256_S256x256_S256x256_1_0_0_1_n_n none A B (constant S256x256 .f32 0x00000000#32) (ix2 i n)
      = ∑ kk : Fin 256, A (ix2 i kk) * B (ix2 kk n) := by
  simp only [matmul]
  refine (Ideal.matmul_constant_zero_apply _ none _ _ _).trans ?_
  refine (Equiv.sum_comp (Idealize.ShloMosaic.ValueIdx.contrEquiv1 dot_S256x256_S256x256_S256x256_1_0_0_1_n_n 256 rfl rfl).symm _).symm.trans ?_
  refine Finset.sum_congr rfl fun kk _ => ?_
  have e1 : dot_S256x256_S256x256_S256x256_1_0_0_1_n_n.lhsIdx (ix2 i n) ((Idealize.ShloMosaic.ValueIdx.contrEquiv1 dot_S256x256_S256x256_S256x256_1_0_0_1_n_n 256 rfl rfl).symm kk) = ix2 i kk :=
    funext (Fin.forall_fin_two.mpr ⟨Fin.ext rfl, Fin.ext rfl⟩)
  have e2 : dot_S256x256_S256x256_S256x256_1_0_0_1_n_n.rhsIdx (ix2 i n) ((Idealize.ShloMosaic.ValueIdx.contrEquiv1 dot_S256x256_S256x256_S256x256_1_0_0_1_n_n 256 rfl rfl).symm kk) = ix2 kk n :=
    funext (Fin.forall_fin_two.mpr ⟨Fin.ext rfl, Fin.ext rfl⟩)
  rw [e1, e2]

theorem numbers_apply (x : IVec S256x256 8) (j : S256x256.Idx) :
    (bitcastToFloat .fp8e4m3 x : FVec Ideal S256x256 .fp8e4m3) j = Ideal.ofBits .fp8e4m3 (x j) := rfl

/-- One pass. -/
theorem passV_apply (A : Vec Ideal S256x256 .fp8e4m3) (W : Vec Ideal S1x64x256 .i32) (i n : Fin 256) :
    passV A W (ix2 i n) = ∑ kk : Fin 256, A (ix2 i kk) * Ideal.ofBits .fp8e4m3 (byteN (kk.val % 4) (W (ix3 0 ⟨kk.val / 4, by omega⟩ n))) := by
  unfold passV
  refine (dot_apply _ _ _ _).trans ?_
  refine Finset.sum_congr rfl fun kk _ => ?_
  rw [numbers_apply, bytes_apply]
  have e : shapeCast S64x256 W shapeCasts_S1x64x256_S64x256 (ix2 ⟨kk.val / 4, by omega⟩ n) = W (ix3 0 ⟨kk.val / 4, by omega⟩ n) :=
    shapeCast_apply _ _ _ _ (by rw [Shape.rowMajor_val_two, Shape.rowMajor_val_three]; show (0 * 64 + kk.val / 4) * 256 + n.val = kk.val / 4 * 256 + n.val; omega)
  rw [e]

theorem accV_apply (A : Fin 8 → Vec Ideal S256x256 .fp8e4m3) (W : Fin 8 → Vec Ideal S1x64x256 .i32) (j : S256x256.Idx) :
    accV A W j = ∑ c : Fin 8, passV (A c) (W c) j := by
  rw [Fin.sum_univ_eight]
  rfl

theorem concat_apply (SC : Vec Ideal S256x128 .f32) (i n : Fin 256) :
    (concatenate S256x256 1 [⟨S256x128, SC⟩, ⟨S256x128, SC⟩] concatenates_S256x128_S256x128_S256x256_d1 : FVec Ideal S256x256 .f32) (ix2 i n)
      = SC (ix2 i ⟨n.val % 128, Nat.mod_lt _ (by decide)⟩) := by
  pointwise
  have key : ∀ m m' : Fin 128, m.val = m'.val → SC (ix2 i m) = SC (ix2 i m') := fun m m' h => by rw [Fin.ext h]
  split
  · exact key _ _ (by show n.val = n.val % 128; omega)
  · exact key _ _ (by show n.val - 128 = n.val % 128; omega)

theorem zV_apply (a : FVec Ideal S256x256 .f32) (SC : Vec Ideal S256x128 .f32) (w : Vec Ideal S1x256 .f32) (i n : Fin 256) :
    zV a SC w (ix2 i n) = a (ix2 i n) * SC (ix2 i ⟨n.val % 128, Nat.mod_lt _ (by decide)⟩) * w (ix2 0 n) := by
  unfold zV
  have e1 := concat_apply SC i n
  have e2 : broadcastTo S256x256 w broadcasts_S1x256_S256x256 (ix2 i n) = w (ix2 0 n) :=
    broadcastTo_apply (s := S1x256) _ _ (ix2 i n) (ix2 0 n) (Fin.forall_fin_two.mpr ⟨rfl, rfl⟩)
  rw [← e1, ← e2]
  rfl

theorem gateV_at (g u : FVec Ideal S256x256 .f32) (j : S256x256.Idx) :
    gateV g u j = g j * Ideal.div (Ideal.ofBits .f32 0x3F800000#32) (Ideal.ofBits .f32 0x3F800000#32 + Ideal.exp (Ideal.ofBits .f32 0x00000000#32 - g j)) * u j := rfl

theorem gateV_apply (g u : FVec Ideal S256x256 .f32) (j : S256x256.Idx) : gateV g u j = hOf (g j) (u j) := by
  rw [gateV_at, Ideal.ofBits_one_f32, Ideal.ofBits_zero_f32, zero_sub]
  rfl

theorem hV_apply (A : Fin 8 → Vec Ideal S256x256 .fp8e4m3) (W : Fin 2 → Fin 8 → Vec Ideal S1x64x256 .i32) (SC : Vec Ideal S256x128 .f32)
    (w : Fin 2 → Vec Ideal S1x256 .f32) (j : S256x256.Idx) :
    hV A W SC w j = hOf (zV (accV A (W 0)) SC (w 0) j) (zV (accV A (W 1)) SC (w 1) j) := by
  rw [← gateV_apply]
  rfl

end Cert.Hand

end
-- ==== Proof.Ideal.Tops.lean ====
/- What the three runs leave, in the structured lists. -/
module

public import proofs.«01_k».proof.Proof.Ideal.Blocks

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

section
variable (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (xs6 : Vec F S22x1024x256 .f32) (x5 : Vec F S1024x2048 .fp8e4m3) (x6 : Vec F S4x1x256 .f32)

/-- The words of a pass. -/
def wLoad (s : Fin 2) (j : Fin 8) : Vec F S1x64x256 .i32 :=
  arg13.view.readCov (wPieces arg2 harg2 arg3 harg3 arg14 arg15 x1 x2) (wRect s j)

/-- The scales of the columns. -/
def wsLoad (s : Fin 2) : Vec F S1x256 .f32 := View.readAt (Elt F) arg4.view (wsRect s) (harg4.unread x3)

theorem topB (hc0 : ¬cond0_0 i) (hc1 : ¬cond0_1 i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7 xs6 x5 x6).1
      = hPieces (fun b j => View.readAt (Elt F) arg10.view (xpRect b j) (harg10.unread xs0))
          (wLoad arg2 harg2 arg3 harg3 arg13 arg14 arg15 x1 x2)
          (fun b => View.readAt (Elt F) arg11.view (scRect b) (harg11.unread xs1)) (wsLoad arg4 harg4 x3) := by
  unfold wLoad; rw [← wB _ _ _ _ _ _ _ _ c]; sl_kernel_rfl

theorem topC (hc0 : ¬cond0_0 i) (hc1 : cond0_1 i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7 xs6 x5 x6).1
      = hPieces (fun b j => View.readAt (Elt F) arg10.view (xpRect b j) (harg10.unread xs0))
          (wLoad arg2 harg2 arg3 harg3 arg13 arg14 arg15 x1 x2)
          (fun b => View.readAt (Elt F) arg11.view (scRect b) (harg11.unread xs1)) (wsLoad arg4 harg4 x3) := by
  unfold wLoad; rw [← wC _ _ _ _ _ _ _ _ c]; sl_kernel_rfl

theorem topA (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1
      = hPieces (fun b j => arg10.view.readCov (xpPieces arg1 harg1 arg6 arg12 x0) (xpRect b j))
          (wLoad arg2 harg2 arg3 harg3 arg13 arg14 arg15 x1 x2)
          (fun b => arg11.view.readCov (xsbPieces arg1 harg1 x0) (scRect b)) (wsLoad arg4 harg4 x3) := by
  unfold wLoad; rw [← wA _ _ _ _ _ _ _ _ c, ← xpA _ _ _ _ _ c, ← xsbA _ _ _ c]; sl_kernel_rfl

theorem topA5 (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1
      = xcPieces arg1 harg1 x0 := xcA _ _ _ c

theorem topA6 (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1
      = xsPieces arg1 harg1 x0 := by sl_kernel_rfl

theorem topA0 (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1
      = xpPieces arg1 harg1 arg6 arg12 x0 := xpA _ _ _ _ _ c

theorem topA1 (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1
      = xsbPieces arg1 harg1 x0 := xsbA _ _ _ c

end

end Cert.KernelIdeal.Hand

end
-- ==== Proof.Ideal.WeightValues.lean ====
/- What the words of the weights are, byte by byte. -/
module

public import proofs.«01_k».proof.Proof.Ideal.Tops
public import proofs.«01_k».proof.Proof.Ideal.Words
public import Idealize.ShloMosaic.Lib.WholeRead
public import Idealize.ShloMosaic.Lib.Pipeline.CanonAppend
public import Idealize.ShloMosaic.Lib.Pointwise
public import Idealize.ShloMosaic.Lib.BitcastFour

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-- A covered load of pieces that all agree with one function reads that function. -/
theorem readCov_of_pieces {S : Shape} {e : EltTy} {Val : EltTy → Type} [∀ e, Nonempty (Val e)] {sig : RefSig} {κ : Kind} {sp : Space}
    (v : View sig κ sp S e) (L L' : List (View.Piece Val S e)) (B : LoadRect S) (G : S.Idx → Val e)
    (hL : ∀ p ∈ L, ∀ x, p.2 x = G (p.1.emb x)) (x : B.shape.Idx) (hc : ∃ p ∈ L, B.idx x ∈ p.1.set) :
    v.readCov (L ++ L') B x = G (B.idx x) := by
  rw [View.readCov_eq_canon']
  exact View.canon_append_of_pieces G L' L hL _ hc

theorem transpose_words (X : IVec S1x128x128 8) (r : Fin 32) (l : Fin 128) (e i : Nat) (he : e < 4) (hi : i < 8) :
    (bitcast S32x128 32 (transpose S128x128 [1, 0] (shapeCast S128x128 X shapeCasts_S1x128x128_S128x128)
      transposes_S128x128_p1_0_S128x128) bitcasts_S128x128_w8_S32x128_w32 (ix2 r l)).getLsbD (8 * e + i)
      = (X (ix3 0 l ⟨4 * r.val + e, by omega⟩)).getLsbD i := by
  refine (bitcast_8_32_getLsbD_ix2 _ _ _ _ _ (by omega) ⟨4 * r.val + e, by omega⟩ (by simp; omega)).trans ?_
  rw [show (8 * e + i) % 8 = i by omega]
  congr 1
  change transpose S128x128 [1, 0] _ _ (ix2 _ _) = _
  pointwise

section
variable (arg2 : Memref sig .tc .vmem S2x256x1024 .i8) (harg2 : arg2.IsWhole) (arg3 : Memref sig .tc .vmem S2x64x256 .i32)
  (harg3 : arg3.IsWhole) (arg14 : Memref sig .tc .vmem S272x128 .i32) (arg15 : Memref sig .tc .vmem S64x128 .i32)
  (x1 : Vec F S2x256x1024 .i8) (x2 : Vec F S2x64x256 .i32)

theorem vt_read (s nb : Fin 2) (t : Fin 16) (l : Fin 128) (k : Fin 128) :
    View.readAt (Elt F) arg2.view (Rect.unit (s := S2x256x1024) ![s.val, 128 * nb.val, 128 * (t.val / 2)] S1x128x128.size (vt_inb_load s nb t)).toLoadRect
        (harg2.unread x1) (ix3 0 l k) = x1 (ix3 s ⟨128 * nb.val + l.val, by omega⟩ ⟨128 * (t.val / 2) + k.val, by omega⟩) := by
  refine (harg2.readAt_unread x1 _ _).trans ?_
  congr 1
  funext a
  apply Fin.ext
  rw [LoadRect.idx_apply]
  fin_cases a <;> simp [Rect.unit, Rect.toLoadRect]

theorem vtPay_apply (s nb : Fin 2) (t b : Fin 16) (l : Fin 128) :
    vtPay arg2 harg2 x1 s nb t (ix2 b l)
      = bitcast S32x128 32 (transpose S128x128 [1, 0] (shapeCast S128x128 (View.readAt (Elt F) arg2.view (Rect.unit (s := S2x256x1024) ![s.val, 128 * nb.val, 128 * (t.val / 2)] S1x128x128.size (vt_inb_load s nb t)).toLoadRect
        (harg2.unread x1)) shapeCasts_S1x128x128_S128x128) transposes_S128x128_p1_0_S128x128) bitcasts_S128x128_w8_S32x128_w32
        (ix2 ⟨16 * (t.val % 2) + b.val, by omega⟩ l) := by
  unfold vtPay
  generalize bitcast S32x128 32 _ _ = B
  pointwise

theorem byteN_vtPay (s nb : Fin 2) (t b : Fin 16) (l : Fin 128) (e : Nat) (he : e < 4) :
    byteN e (vtPay arg2 harg2 x1 s nb t (ix2 b l))
      = x1 (ix3 s ⟨128 * nb.val + l.val, by omega⟩ ⟨64 * t.val + 4 * b.val + e, by omega⟩) := by
  apply BitVec.eq_of_getLsbD_eq
  intro i hi
  rw [byteN_getLsbD _ _ _ hi, vtPay_apply, transpose_words _ _ _ e i he hi, vt_read]
  congr 3
  apply Fin.ext
  simp only []
  omega

/-- The staged words of kept weights, by row. -/
def vtG (s nb : Fin 2) : S272x128.Idx → BitVec 32 := fun y =>
  vtPay arg2 harg2 x1 s nb ⟨(y 0).val / 17 % 16, Nat.mod_lt _ (by decide)⟩ (ix2 ⟨(y 0).val % 17 % 16, Nat.mod_lt _ (by decide)⟩ (y 1))

theorem vtG_eq (s nb : Fin 2) (y : S272x128.Idx) (t b : Fin 16) (l : Fin 128) (h0 : (y 0).val = 17 * t.val + b.val)
    (h1 : (y 1).val = l.val) : vtG arg2 harg2 x1 s nb y = vtPay arg2 harg2 x1 s nb t (ix2 b l) := by
  have key : ∀ (t' b' : Fin 16) (l' : Fin 128), t' = t → b' = b → l' = l →
      vtPay arg2 harg2 x1 s nb t' (ix2 b' l') = vtPay arg2 harg2 x1 s nb t (ix2 b l) := by
    rintro _ _ _ rfl rfl rfl; rfl
  exact key _ _ _ (Fin.ext (by show (y 0).val / 17 % 16 = t.val; omega)) (Fin.ext (by show (y 0).val % 17 % 16 = b.val; omega))
    (Fin.ext h1)

theorem mem_unit2 {n0 n1 : Nat} (off size : Fin 2 → Nat) (inb : ∀ a, off a + size a ≤ (⟨2, ![n0, n1]⟩ : Shape).size a)
    (y : (⟨2, ![n0, n1]⟩ : Shape).Idx) (h0 : off 0 ≤ (y 0).val ∧ (y 0).val < off 0 + size 0)
    (h1 : off 1 ≤ (y 1).val ∧ (y 1).val < off 1 + size 1) : y ∈ (Rect.unit (s := ⟨2, ![n0, n1]⟩) off size inb).set := by
  rw [Rect.mem_set_unit]
  exact Fin.forall_fin_two.mpr ⟨h0, h1⟩

theorem vLoad_apply (s nb gb : Fin 2) (m q : Fin 4) (i : Fin 8) (l : Fin 128) :
    vLoad arg2 harg2 arg14 x1 s nb gb m q (ix2 i l)
      = vtPay arg2 harg2 x1 s nb ⟨8 * gb.val + i.val, by omega⟩ (ix2 ⟨4 * m.val + q.val, by omega⟩ l) := by
  have hs : (⟨(2 * s.val + nb.val) / 2 % 2, Nat.mod_lt _ (by decide)⟩ : Fin 2) = s := Fin.ext (by simp only []; omega)
  have hn : (⟨(2 * s.val + nb.val) % 2, Nat.mod_lt _ (by decide)⟩ : Fin 2) = nb := Fin.ext (by simp only []; omega)
  unfold vLoad
  rw [vtUpTo, hs, hn]
  refine (readCov_of_pieces (Val := Elt F) arg14.view (vtStage arg2 harg2 x1 s nb) _
    ⟨![17 * (8 * gb.val) + 4 * m.val + q.val, 0], S8x128.size, ![17, 1], vl_inb gb m q⟩ (vtG arg2 harg2 x1 s nb) ?_ (ix2 i l) ?_).trans ?_
  · intro p hp x
    unfold vtStage at hp
    obtain ⟨t, -, rfl⟩ := List.mem_map.mp hp
    refine Eq.trans ?_ (vtG_eq arg2 harg2 x1 s nb _ t (x 0) (x 1) ?_ ?_).symm
    · exact congrArg (vtPay arg2 harg2 x1 s nb t) (eq_ix2 x)
    · show 17 * t.val + 1 * (x 0).val = _; rw [Nat.one_mul]
    · show 0 + 1 * (x 1).val = _; rw [Nat.one_mul, Nat.zero_add]
  · refine ⟨⟨Rect.unit ![17 * (8 * gb.val + i.val), 0] S16x128.size (vt_inb ⟨8 * gb.val + i.val, by omega⟩), vtPay arg2 harg2 x1 s nb ⟨8 * gb.val + i.val, by omega⟩⟩, ?_, ?_⟩
    · unfold vtStage
      exact List.mem_map.mpr ⟨⟨8 * gb.val + i.val, by omega⟩, by simp, rfl⟩
    · refine mem_unit2 _ _ (vt_inb ⟨8 * gb.val + i.val, by omega⟩) _ ?_ ?_
      · show 17 * (8 * gb.val + i.val) ≤ 17 * (8 * gb.val) + 4 * m.val + q.val + 17 * i.val
          ∧ 17 * (8 * gb.val) + 4 * m.val + q.val + 17 * i.val < 17 * (8 * gb.val + i.val) + 16
        omega
      · show 0 ≤ 0 + 1 * l.val ∧ 0 + 1 * l.val < 0 + 128
        omega
  · refine vtG_eq arg2 harg2 x1 s nb _ _ _ _ ?_ ?_
    · show 17 * (8 * gb.val) + 4 * m.val + q.val + 17 * i.val = 17 * (8 * gb.val + i.val) + (4 * m.val + q.val)
      omega
    · show 0 + 1 * l.val = l.val
      omega

theorem byteN_vLoad (s nb gb : Fin 2) (m q : Fin 4) (i : Fin 8) (l : Fin 128) (e : Nat) (he : e < 4) :
    byteN e (vLoad arg2 harg2 arg14 x1 s nb gb m q (ix2 i l))
      = x1 (ix3 s ⟨128 * nb.val + l.val, by omega⟩ ⟨16 * (32 * gb.val + 4 * i.val + m.val) + 4 * q.val + e, by omega⟩) := by
  rw [vLoad_apply, byteN_vtPay _ _ _ _ _ _ _ _ e he]
  congr 2
  apply Fin.ext
  simp only []
  omega

theorem it_of (B : IVec S1x64x128 32) (r : Fin 64) (l : Fin 128) :
    shapeCast S64x128 (xori (shapeCast S64x128 B shapeCasts_S1x64x128_S64x128) (broadcast S64x128 3435973836#32)) shapeCasts_S64x128_S64x128
      (ix2 r l) = B (ix3 0 r l) ^^^ 3435973836#32 := by
  pointwise
  rfl

theorem itPay_apply (s nb : Fin 2) (r : Fin 64) (l : Fin 128) :
    itPay arg3 harg3 x2 s nb (ix2 r l) = x2 (ix3 s r ⟨128 * nb.val + l.val, by omega⟩) ^^^ 3435973836#32 := by
  have hr : View.readAt (Elt F) arg3.view (Rect.unit (s := S2x64x256) ![s.val, 0, 128 * nb.val] S1x64x128.size (it_inb_load s nb)).toLoadRect (harg3.unread x2) (ix3 0 r l)
      = x2 (ix3 s r ⟨128 * nb.val + l.val, by omega⟩) := by
    refine (harg3.readAt_unread x2 _ _).trans ?_
    congr 1
    funext a
    apply Fin.ext
    rw [LoadRect.idx_apply]
    fin_cases a <;> simp [Rect.unit, Rect.toLoadRect]
  rw [← hr]
  exact it_of _ r l

theorem iLoad_apply (s nb gb : Fin 2) (m : Fin 4) (i : Fin 8) (l : Fin 128) :
    iLoad arg3 harg3 arg15 x2 s nb gb m (ix2 i l)
      = x2 (ix3 s ⟨32 * gb.val + 4 * i.val + m.val, by omega⟩ ⟨128 * nb.val + l.val, by omega⟩) ^^^ 3435973836#32 := by
  have hs : (⟨(2 * s.val + nb.val) / 2 % 2, Nat.mod_lt _ (by decide)⟩ : Fin 2) = s := Fin.ext (by simp only []; omega)
  have hn : (⟨(2 * s.val + nb.val) % 2, Nat.mod_lt _ (by decide)⟩ : Fin 2) = nb := Fin.ext (by simp only []; omega)
  unfold iLoad
  rw [itUpTo, hs, hn]
  refine Eq.trans ?_ (itPay_apply arg3 harg3 x2 s nb _ _)
  refine (readCov_of_pieces (Val := Elt F) arg15.view [⟨Rect.unit ![0, 0] S64x128.size it_inb, itPay arg3 harg3 x2 s nb⟩] _
    ⟨![32 * gb.val + m.val, 0], S8x128.size, ![4, 1], il_inb gb m⟩ (itPay arg3 harg3 x2 s nb) ?_ (ix2 i l) ?_).trans ?_
  · intro p hp x
    obtain rfl := List.mem_singleton.mp hp
    refine congrArg (itPay arg3 harg3 x2 s nb) (funext (Fin.forall_fin_two.mpr ⟨Fin.ext ?_, Fin.ext ?_⟩))
    · show (x 0).val = 0 + 1 * (x 0).val; omega
    · show (x 1).val = 0 + 1 * (x 1).val; omega
  · refine ⟨_, List.mem_singleton.mpr rfl, mem_unit2 _ _ it_inb _ ?_ ?_⟩
    · show 0 ≤ 32 * gb.val + m.val + 4 * i.val ∧ 32 * gb.val + m.val + 4 * i.val < 0 + 64
      omega
    · show 0 ≤ 0 + 1 * l.val ∧ 0 + 1 * l.val < 0 + 128
      omega
  · refine congrArg (itPay arg3 harg3 x2 s nb) (funext (Fin.forall_fin_two.mpr ⟨Fin.ext ?_, Fin.ext ?_⟩))
    · show 32 * gb.val + m.val + 4 * i.val = 32 * gb.val + 4 * i.val + m.val; omega
    · show 0 + 1 * l.val = l.val; omega

theorem pack8V_apply (a b : IVec S8x128 32) (y : S8x128.Idx) : pack8V a b y = pack8 (a y) (b y) := rfl

theorem shrV_apply (a : IVec S8x128 32) (n : Nat) (y : S8x128.Idx) :
    shrV a n y = IntOp.shrsi .vector (a y) (BitVec.ofNat 32 n) := rfl

theorem bytesAcrossV_apply (k : Nat) (a : Fin 4 → IVec S8x128 32) (y : S8x128.Idx) :
    bytesAcrossV k a y = bytesAcross k (a 0 y) (a 1 y) (a 2 y) (a 3 y) := by
  rcases k with _ | _ | _ | k <;>
    simp only [bytesAcrossV, bytesAcross, pack8V_apply, shrV_apply, packElementwiseI16_apply, pack16]

theorem bitMaskV_apply (b : Nat) (t : IVec S8x128 32) (y : S8x128.Idx) : bitMaskV b t y = bitMask b (t y) := by
  rcases b with _ | b <;> rfl

theorem denseV_apply (jj p : Nat) (t v0 v1 : IVec S8x128 32) (y : S8x128.Idx) :
    denseV jj p t v0 v1 y = dense jj p (t y) (v0 y) (v1 y) := by
  rcases p with _ | _ | _ | p
  · show (v0 y ^^^ (v0 y &&& bitMaskV _ t y)) ^^^ (v0 y &&& bitMaskV _ t y) = _
    rw [bitMaskV_apply, bitMaskV_apply]; rfl
  · show (v0 y &&& bitMaskV _ t y) ||| (v1 y &&& bitMaskV _ t y) = _
    rw [bitMaskV_apply, bitMaskV_apply]; rfl
  · show (v0 y &&& bitMaskV _ t y) ||| (v1 y &&& bitMaskV _ t y) = _
    rw [bitMaskV_apply, bitMaskV_apply]; rfl
  · show (v1 y ^^^ (v1 y &&& bitMaskV _ t y)) ^^^ (v1 y &&& bitMaskV _ t y) = _
    rw [bitMaskV_apply, bitMaskV_apply]; rfl

end

/-- Byte of the expanded weights: the weight of column `n` at word `wd`, nibble `j`, place `p`. -/
def wByte (x1 : Vec F S2x256x1024 .i8) (x2 : Vec F S2x64x256 .i32) (s : Fin 2) (n : Fin 256) (wd : Fin 64) (j : Fin 8) (p : Nat) : BitVec 8 :=
  denseByte p (BitVec.getLsbD (w := 32) (x2 (ix3 s wd n)) (4 * j.val)) (BitVec.getLsbD (w := 32) (x2 (ix3 s wd n)) (4 * j.val + 1))
    (!BitVec.getLsbD (w := 32) (x2 (ix3 s wd n)) (4 * j.val + 2)) (!BitVec.getLsbD (w := 32) (x2 (ix3 s wd n)) (4 * j.val + 3))
    (x1 (ix3 s n ⟨16 * wd.val + 2 * j.val, by omega⟩)) (x1 (ix3 s n ⟨16 * wd.val + 2 * j.val + 1, by omega⟩))

/-- The words of the expanded weights. -/
def wS (x1 : Vec F S2x256x1024 .i8) (x2 : Vec F S2x64x256 .i32) : S2x512x256.Idx → BitVec 32 := fun y =>
  ofBytes fun m => wByte x1 x2 (y 0) (y 2) ⟨(4 * ((y 1).val % 16) + m) % 64, Nat.mod_lt _ (by decide)⟩
    ⟨(y 1).val / 64 % 8, Nat.mod_lt _ (by decide)⟩ ((y 1).val / 16 % 4)

section
variable (arg2 : Memref sig .tc .vmem S2x256x1024 .i8) (harg2 : arg2.IsWhole) (arg3 : Memref sig .tc .vmem S2x64x256 .i32)
  (harg3 : arg3.IsWhole) (arg13 : Memref sig .tc .vmem S2x512x256 .i32) (arg14 : Memref sig .tc .vmem S272x128 .i32) (arg15 : Memref sig .tc .vmem S64x128 .i32)
  (x1 : Vec F S2x256x1024 .i8) (x2 : Vec F S2x64x256 .i32)

theorem mem_unit3 {n0 n1 n2 : Nat} (off size : Fin 3 → Nat) (inb : ∀ a, off a + size a ≤ (⟨3, ![n0, n1, n2]⟩ : Shape).size a)
    (y : (⟨3, ![n0, n1, n2]⟩ : Shape).Idx) (h0 : off 0 ≤ (y 0).val ∧ (y 0).val < off 0 + size 0)
    (h1 : off 1 ≤ (y 1).val ∧ (y 1).val < off 1 + size 1) (h2 : off 2 ≤ (y 2).val ∧ (y 2).val < off 2 + size 2) :
    y ∈ (Rect.unit (s := ⟨3, ![n0, n1, n2]⟩) off size inb).set := by
  rw [Rect.mem_set_unit]
  intro a
  match a with
  | 0 => exact h0
  | 1 => exact h1
  | 2 => exact h2

/-- The words at a named position. -/
theorem wS_eq (y : S2x512x256.Idx) (s : Fin 2) (n : Fin 256) (g : Fin 16) (p : Fin 4) (j : Fin 8) (h0 : (y 0).val = s.val)
    (h1 : (y 1).val = 64 * j.val + 16 * p.val + g.val) (h2 : (y 2).val = n.val) (m : Nat) (hm : m < 4) :
    byteN m (wS x1 x2 y) = wByte x1 x2 s n ⟨4 * g.val + m, by omega⟩ j p.val := by
  have key : ∀ (s' : Fin 2) (n' : Fin 256) (w' : Fin 64) (j' : Fin 8) (p' : Nat), s' = s → n' = n → w' = ⟨4 * g.val + m, by omega⟩ → j' = j → p' = p.val →
      wByte x1 x2 s' n' w' j' p' = wByte x1 x2 s n ⟨4 * g.val + m, by omega⟩ j p.val := by
    rintro _ _ _ _ _ rfl rfl rfl rfl rfl; rfl
  unfold wS
  rw [byteN_ofBytes _ _ hm]
  exact key _ _ _ _ _ (Fin.ext h0) (Fin.ext h2) (Fin.ext (by show (4 * ((y 1).val % 16) + m) % 64 = 4 * g.val + m; omega))
    (Fin.ext (by show (y 1).val / 64 % 8 = j.val; omega)) (by omega)

theorem pick_apply {α β : Type} (f : α → β) (m : Nat) (a0 a1 a2 a3 : α) : f (pick m a0 a1 a2 a3) = pick m (f a0) (f a1) (f a2) (f a3) := by
  unfold pick; split <;> rfl

theorem pick_fin {α : Type} (f : Fin 4 → α) (m : Nat) (hm : m < 4) : pick m (f 0) (f 1) (f 2) (f 3) = f ⟨m, hm⟩ := by
  interval_cases m <;> rfl

theorem byteN_wPay (s nb gb : Fin 2) (q : Fin 4) (jj : Fin 2) (p : Fin 4) (i : Fin 8) (l : Fin 128) (m : Nat) (hm : m < 4) :
    byteN m (denseV jj.val p.val (bytesAcrossV q.val (iLoad arg3 harg3 arg15 x2 s nb gb))
      (bytesAcrossV (2 * jj.val) (fun m => vLoad arg2 harg2 arg14 x1 s nb gb m q))
      (bytesAcrossV (2 * jj.val + 1) (fun m => vLoad arg2 harg2 arg14 x1 s nb gb m q)) (ix2 i l))
      = wByte x1 x2 s ⟨128 * nb.val + l.val, by omega⟩ ⟨4 * (8 * gb.val + i.val) + m, by omega⟩ ⟨2 * q.val + jj.val, by omega⟩ p.val := by
  rw [denseV_apply, byteN_dense _ _ jj.isLt _ _ _ _ hm, bytesAcrossV_apply, bytesAcrossV_apply, bytesAcrossV_apply,
    byteN_bytesAcross _ _ (by omega) hm, byteN_bytesAcross _ _ (by omega) hm, byteN_bytesAcross _ _ (by omega) hm,
    pick_fin (fun m => vLoad arg2 harg2 arg14 x1 s nb gb m q (ix2 i l)) m hm, pick_fin (fun m => iLoad arg3 harg3 arg15 x2 s nb gb m (ix2 i l)) m hm,
    byteN_vLoad _ _ _ _ _ _ _ _ _ _ _ _ (by omega), byteN_vLoad _ _ _ _ _ _ _ _ _ _ _ _ (by omega), iLoad_apply]
  have hb : ∀ r, r < 4 → (byteN q.val (x2 (ix3 s ⟨32 * gb.val + 4 * i.val + m, by omega⟩ ⟨128 * nb.val + l.val, by omega⟩) ^^^ 3435973836#32)).getLsbD (4 * jj.val + r)
      = (if r / 2 % 2 = 0 then BitVec.getLsbD (w := 32) (x2 (ix3 s ⟨32 * gb.val + 4 * i.val + m, by omega⟩ ⟨128 * nb.val + l.val, by omega⟩)) (4 * (2 * q.val + jj.val) + r)
        else !BitVec.getLsbD (w := 32) (x2 (ix3 s ⟨32 * gb.val + 4 * i.val + m, by omega⟩ ⟨128 * nb.val + l.val, by omega⟩)) (4 * (2 * q.val + jj.val) + r)) := by
    intro r hr
    rw [byteN_getLsbD _ _ _ (by omega), flip_getLsbD _ _ (by omega)]
    have e1 : 8 * q.val + (4 * jj.val + r) = 4 * (2 * q.val + jj.val) + r := by omega
    have e2 : (4 * (2 * q.val + jj.val) + r) / 2 % 2 = r / 2 % 2 := by omega
    rw [e1, e2]
  have b0 := hb 0 (by omega)
  have b1 := hb 1 (by omega)
  have b2 := hb 2 (by omega)
  have b3 := hb 3 (by omega)
  norm_num at b0 b1 b2 b3
  rw [b0, b1, b2, b3]
  have hw : (⟨32 * gb.val + 4 * i.val + m, by omega⟩ : Fin 64) = ⟨4 * (8 * gb.val + i.val) + m, by omega⟩ := Fin.ext (by simp only []; omega)
  have k0 : (⟨16 * (32 * gb.val + 4 * i.val + m) + 4 * q.val + 2 * jj.val, by omega⟩ : Fin 1024)
      = ⟨16 * (4 * (8 * gb.val + i.val) + m) + 2 * (2 * q.val + jj.val), by omega⟩ := Fin.ext (by simp only []; omega)
  have k1 : (⟨16 * (32 * gb.val + 4 * i.val + m) + 4 * q.val + (2 * jj.val + 1), by omega⟩ : Fin 1024)
      = ⟨16 * (4 * (8 * gb.val + i.val) + m) + 2 * (2 * q.val + jj.val) + 1, by omega⟩ := Fin.ext (by simp only []; omega)
  unfold wByte
  rw [hw, k0, k1]

theorem cast8 (B : IVec S8x128 32) (a : Fin 1) (i : Fin 8) (l : Fin 128) :
    shapeCast S1x8x128 B shapeCasts_S8x128_S1x8x128 (ix3 a i l) = B (ix2 i l) := by
  pointwise

theorem mem_rev {n : Nat} (i : Fin n) : i ∈ (List.finRange n).reverse := List.mem_reverse.mpr (List.mem_finRange i)

theorem wPieces_eq (P : View.Piece (Elt F) S2x512x256 .i32) (hP : P ∈ wPieces arg2 harg2 arg3 harg3 arg14 arg15 x1 x2) (x : P.1.shape.Idx) :
    P.2 x = wS x1 x2 (P.1.emb x) := by
  unfold wPieces at hP
  simp only [List.mem_flatMap, List.mem_map] at hP
  obtain ⟨s, -, nb, -, gb, -, q, -, jj, -, p, -, rfl⟩ := hP
  obtain ⟨a, i, l, rfl⟩ : ∃ (a : Fin 1) (i : Fin 8) (l : Fin 128), x = ix3 a i l := ⟨x 0, x 1, x 2, eq_ix3 x⟩
  apply eq_of_byteN
  intro m hm
  rw [wS_eq x1 x2 _ s ⟨128 * nb.val + l.val, by omega⟩ ⟨8 * gb.val + i.val, by omega⟩ p ⟨2 * q.val + jj.val, by omega⟩ ?_ ?_ ?_ m hm,
    ← byteN_wPay arg2 harg2 arg3 harg3 arg14 arg15 x1 x2 s nb gb q jj p i l m hm]
  · refine congrArg (byteN m) ?_
    exact cast8 _ a i l
  · show s.val + 1 * a.val = s.val; omega
  · show 64 * (2 * q.val + jj.val) + 16 * p.val + 8 * gb.val + 1 * i.val = _; simp only []; omega
  · show 128 * nb.val + 1 * l.val = _; simp only []; omega

theorem wPieces_cover (y : S2x512x256.Idx) : ∃ P ∈ wPieces arg2 harg2 arg3 harg3 arg14 arg15 x1 x2, y ∈ P.1.set := by
  have h0 : (y 0).val < 2 := (y 0).isLt
  have h1 : (y 1).val < 512 := (y 1).isLt
  have h2 : (y 2).val < 256 := (y 2).isLt
  refine ⟨wPiece arg2 harg2 arg3 harg3 arg14 arg15 x1 x2 ⟨(y 0).val, h0⟩ ⟨(y 2).val / 128, by omega⟩ ⟨(y 1).val / 8 % 2, by omega⟩
    ⟨(y 1).val / 128, by omega⟩ ⟨(y 1).val / 64 % 2, by omega⟩ ⟨(y 1).val / 16 % 4, by omega⟩, ?_, ?_⟩
  · unfold wPieces
    simp only [List.mem_flatMap, List.mem_map]
    exact ⟨_, mem_rev _, _, mem_rev _, _, mem_rev _, _, mem_rev _, _, mem_rev _, _, mem_rev _, rfl⟩
  · refine mem_unit3 _ _ (w_inb _ _ _ _ _ _) _ ?_ ?_ ?_
    · show (y 0).val ≤ (y 0).val ∧ (y 0).val < (y 0).val + 1; omega
    · show 64 * (2 * ((y 1).val / 128) + (y 1).val / 64 % 2) + 16 * ((y 1).val / 16 % 4) + 8 * ((y 1).val / 8 % 2) ≤ (y 1).val
        ∧ (y 1).val < 64 * (2 * ((y 1).val / 128) + (y 1).val / 64 % 2) + 16 * ((y 1).val / 16 % 4) + 8 * ((y 1).val / 8 % 2) + 8
      omega
    · show 128 * ((y 2).val / 128) ≤ (y 2).val ∧ (y 2).val < 128 * ((y 2).val / 128) + 128
      omega

/-- The words of a pass are the named words. -/
theorem wLoad_eq (s : Fin 2) (j : Fin 8) :
    wLoad arg2 harg2 arg3 harg3 arg13 arg14 arg15 x1 x2 s j = fun x => wS x1 x2 ((wRect s j).idx x) := by
  funext x
  unfold wLoad
  have h := readCov_of_pieces (Val := Elt F) arg13.view (wPieces arg2 harg2 arg3 harg3 arg14 arg15 x1 x2) [] (wRect s j) (wS x1 x2)
    (wPieces_eq arg2 harg2 arg3 harg3 arg14 arg15 x1 x2) x (wPieces_cover arg2 harg2 arg3 harg3 arg14 arg15 x1 x2 _)
  rw [List.append_nil] at h
  exact h

end

end Cert.KernelIdeal.Hand

end
-- ==== Proof.Ideal.RowValues.lean ====
/- What the rows of codes and their reordered copy are. -/
module

public import proofs.«01_k».proof.Proof.Ideal.WeightValues
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-- 128 rows of the input. -/
def xRowsS (x0 : Vec F S1024x2048 .bf16) (r : Fin 8) : Vec F S128x2048 .bf16 := fun i =>
  x0 (ix2 ⟨128 * r.val + (i 0).val, by have : (i 0).val < 128 := (i 0).isLt; omega⟩ (i 1))

/-- The codes. -/
def xcS (x0 : Vec F S1024x2048 .bf16) : Vec F S1024x2048 .fp8e4m3 := fun y =>
  k0_pay8 (k0_pay7 (xRowsS x0 ⟨(y 0).val / 128 % 8, Nat.mod_lt _ (by decide)⟩)) (FloatOps.ofBits .f32 3286237184#32)
    (ix2 ⟨(y 0).val % 128, Nat.mod_lt _ (by decide)⟩ (y 1))

/-- The scales, along a row. -/
def xsbS (x0 : Vec F S1024x2048 .bf16) : Vec F S1024x128 .f32 := fun y =>
  k0_pay10 (k0_pay6 (xRowsS x0 ⟨(y 0).val / 128 % 8, Nat.mod_lt _ (by decide)⟩)) (ix2 ⟨(y 0).val % 128, Nat.mod_lt _ (by decide)⟩ (y 1))

/-- The scales. -/
def xsS (x0 : Vec F S1024x2048 .bf16) : Vec F S4x1x256 .f32 := fun y =>
  k0_pay11 (k0_pay6 (xRowsS x0 ⟨(2 * (y 0).val + (y 2).val / 128) % 8, Nat.mod_lt _ (by decide)⟩))
    (ix3 0 0 ⟨(y 2).val % 128, Nat.mod_lt _ (by decide)⟩)

/-- A code as a wide number. -/
def wide (v : F .fp8e4m3) : F .f32 := FloatOps.extf .f32 bitsLt_fp8e4m3_f32 v

/-- The codes in the order of the passes. -/
def xpS (x0 : Vec F S1024x2048 .bf16) : Vec F S1024x2048 .fp8e4m3 := fun y =>
  FloatOps.truncf .fp8e4m3 bitsLt_fp8e4m3_f32 (wide (xcS x0 (ix2 (y 0)
    ⟨(32 * ((y 1).val % 64) + 4 * ((y 1).val / 256) + (y 1).val / 64 % 4) % 2048, Nat.mod_lt _ (by decide)⟩)))

section
variable (arg1 : Memref sig .tc .vmem S1024x2048 .bf16) (harg1 : arg1.IsWhole) (arg6 : Memref sig .tc .vmem S1024x2048 .fp8e4m3)
  (arg12 : Memref sig .tc .vmem S2112x512 .f32) (x0 : Vec F S1024x2048 .bf16)

theorem xRows_eq (r : Fin 8) : xRows arg1 harg1 x0 r = xRowsS x0 r := by
  funext i
  refine (harg1.readAt_unread x0 _ _).trans (congrArg x0 (funext (Fin.forall_fin_two.mpr ⟨Fin.ext ?_, Fin.ext ?_⟩)))
  · show 128 * r.val + 1 * (i 0).val = 128 * r.val + (i 0).val; omega
  · show 0 + 1 * (i 1).val = (i 1).val; omega

/-- A piece of the codes, by row. -/
theorem xcPieces_eq (P : View.Piece (Elt F) S1024x2048 .fp8e4m3) (hP : P ∈ xcPieces arg1 harg1 x0) (x : P.1.shape.Idx) :
    P.2 x = xcS x0 (P.1.emb x) := by
  unfold xcPieces at hP
  obtain ⟨r, -, rfl⟩ := List.mem_map.mp hP
  have key : ∀ (r' : Fin 8) (i' : S128x2048.Idx), r' = r → i' = x →
      k0_pay8 (k0_pay7 (xRows arg1 harg1 x0 r)) (FloatOps.ofBits .f32 3286237184#32) x
        = k0_pay8 (k0_pay7 (xRowsS x0 r')) (FloatOps.ofBits .f32 3286237184#32) i' := by
    rintro _ _ rfl rfl; rw [xRows_eq]
  have h0 : (x 0).val < 128 := (x 0).isLt
  refine key _ _ (Fin.ext ?_) (funext (Fin.forall_fin_two.mpr ⟨Fin.ext ?_, Fin.ext ?_⟩))
  · show (128 * r.val + 1 * (x 0).val) / 128 % 8 = r.val; omega
  · show (128 * r.val + 1 * (x 0).val) % 128 = (x 0).val; omega
  · show 0 + 1 * (x 1).val = (x 1).val; omega

theorem xcPieces_cover (y : S1024x2048.Idx) : ∃ P ∈ xcPieces arg1 harg1 x0, y ∈ P.1.set := by
  have h0 : (y 0).val < 1024 := (y 0).isLt
  have h1 : (y 1).val < 2048 := (y 1).isLt
  refine ⟨_, List.mem_map.mpr ⟨⟨(y 0).val / 128, by omega⟩, mem_rev _, rfl⟩, mem_unit2 _ _ (x_inb _) _ ?_ ?_⟩
  · show 128 * ((y 0).val / 128) ≤ (y 0).val ∧ (y 0).val < 128 * ((y 0).val / 128) + 128; omega
  · show 0 ≤ (y 1).val ∧ (y 1).val < 0 + 2048; omega

theorem xsbPieces_eq (P : View.Piece (Elt F) S1024x128 .f32) (hP : P ∈ xsbPieces arg1 harg1 x0) (x : P.1.shape.Idx) :
    P.2 x = xsbS x0 (P.1.emb x) := by
  unfold xsbPieces at hP
  obtain ⟨r, -, rfl⟩ := List.mem_map.mp hP
  have key : ∀ (r' : Fin 8) (i' : S128x128.Idx), r' = r → i' = x →
      k0_pay10 (F := F) (k0_pay6 (xRows arg1 harg1 x0 r)) x = k0_pay10 (k0_pay6 (xRowsS x0 r')) i' := by
    rintro _ _ rfl rfl; rw [xRows_eq]
  have h0 : (x 0).val < 128 := (x 0).isLt
  refine key _ _ (Fin.ext ?_) (funext (Fin.forall_fin_two.mpr ⟨Fin.ext ?_, Fin.ext ?_⟩))
  · show (128 * r.val + 1 * (x 0).val) / 128 % 8 = r.val; omega
  · show (128 * r.val + 1 * (x 0).val) % 128 = (x 0).val; omega
  · show 0 + 1 * (x 1).val = (x 1).val; omega

theorem xsbPieces_cover (y : S1024x128.Idx) : ∃ P ∈ xsbPieces arg1 harg1 x0, y ∈ P.1.set := by
  have h0 : (y 0).val < 1024 := (y 0).isLt
  have h1 : (y 1).val < 128 := (y 1).isLt
  refine ⟨_, List.mem_map.mpr ⟨⟨(y 0).val / 128, by omega⟩, mem_rev _, rfl⟩, mem_unit2 _ _ (xsb_inb _) _ ?_ ?_⟩
  · show 128 * ((y 0).val / 128) ≤ (y 0).val ∧ (y 0).val < 128 * ((y 0).val / 128) + 128; omega
  · show 0 ≤ (y 1).val ∧ (y 1).val < 0 + 128; omega

theorem xsPieces_eq (P : View.Piece (Elt F) S4x1x256 .f32) (hP : P ∈ xsPieces arg1 harg1 x0) (x : P.1.shape.Idx) :
    P.2 x = xsS x0 (P.1.emb x) := by
  unfold xsPieces at hP
  obtain ⟨r, -, rfl⟩ := List.mem_map.mp hP
  have key : ∀ (r' : Fin 8) (i' : S1x1x128.Idx), r' = r → i' = x →
      k0_pay11 (F := F) (k0_pay6 (xRows arg1 harg1 x0 r)) x = k0_pay11 (k0_pay6 (xRowsS x0 r')) i' := by
    rintro _ _ rfl rfl; rw [xRows_eq]
  have h0 : (x 0).val < 1 := (x 0).isLt
  have h1 : (x 1).val < 1 := (x 1).isLt
  have h2 : (x 2).val < 128 := (x 2).isLt
  refine key _ _ (Fin.ext ?_) ?_
  · show (2 * (r.val / 2 + 1 * (x 0).val) + (128 * (r.val % 2) + 1 * (x 2).val) / 128) % 8 = r.val; omega
  · refine Eq.trans ?_ (eq_ix3 x).symm
    have key2 : ∀ (a a' b b' : Fin 1) (l l' : Fin 128), l = l' → (ix3 a b l : S1x1x128.Idx) = ix3 a' b' l' := by
      intro a a' b b' l l' h
      rw [h, Subsingleton.elim a a', Subsingleton.elim b b']
    refine key2 _ _ _ _ _ _ (Fin.ext ?_)
    show (128 * (r.val % 2) + 1 * (x 2).val) % 128 = (x 2).val; omega

theorem xsPieces_cover (y : S4x1x256.Idx) : ∃ P ∈ xsPieces arg1 harg1 x0, y ∈ P.1.set := by
  have h0 : (y 0).val < 4 := (y 0).isLt
  have h1 : (y 1).val < 1 := (y 1).isLt
  have h2 : (y 2).val < 256 := (y 2).isLt
  refine ⟨_, List.mem_map.mpr ⟨⟨2 * (y 0).val + (y 2).val / 128, by omega⟩, mem_rev _, rfl⟩, mem_unit3 _ _ (xs_inb _) _ ?_ ?_ ?_⟩
  · show (2 * (y 0).val + (y 2).val / 128) / 2 ≤ (y 0).val ∧ (y 0).val < (2 * (y 0).val + (y 2).val / 128) / 2 + 1; omega
  · show 0 ≤ (y 1).val ∧ (y 1).val < 0 + 1; omega
  · show 128 * ((2 * (y 0).val + (y 2).val / 128) % 2) ≤ (y 2).val ∧ (y 2).val < 128 * ((2 * (y 0).val + (y 2).val / 128) % 2) + 128; omega

/-- A transposed copy of half of the codes, by row. -/
def xtG (x0 : Vec F S1024x2048 .bf16) (c : Fin 2) : S2112x512.Idx → F .f32 := fun y =>
  wide (xcS x0 (ix2 ⟨512 * c.val + (y 1).val, by have : (y 1).val < 512 := (y 1).isLt; omega⟩
    ⟨(32 * ((y 0).val / 33) + (y 0).val % 33) % 2048, Nat.mod_lt _ (by decide)⟩))

theorem pay255_apply (v : Vec F S512x128 .fp8e4m3) (a : Fin 128) (b : Fin 512) : k0_pay255 v (ix2 a b) = wide (v (ix2 b a)) := by
  unfold k0_pay255 wide
  pointwise

theorem xt_cast (B : FVec F S128x512 .f32) (g : Fin 4) (i : Fin 32) (b : Fin 512) :
    shapeCast S32x512 (extractStridedSlice S32x512 ![32 * g.val, 0] B (xt_slices g)) shapeCasts_S32x512_S32x512 (ix2 i b)
      = B (ix2 ⟨32 * g.val + i.val, by omega⟩ b) := by
  pointwise

theorem xtHalf_eq (c : Fin 2) (P : View.Piece (Elt F) S2112x512 .f32) (hP : P ∈ xtHalf arg1 harg1 arg6 x0 c) (x : P.1.shape.Idx) :
    P.2 x = xtG x0 c (P.1.emb x) := by
  unfold xtHalf at hP
  simp only [List.mem_flatMap, List.mem_map] at hP
  obtain ⟨kb, -, g, -, rfl⟩ := hP
  obtain ⟨i, b, rfl⟩ : ∃ (i : Fin 32) (b : Fin 512), x = ix2 i b := ⟨x 0, x 1, eq_ix2 x⟩
  refine (xt_cast _ g i b).trans ((pay255_apply _ _ _).trans (congrArg wide ?_))
  have h := readCov_of_pieces (Val := Elt F) arg6.view (xcPieces arg1 harg1 x0) []
    (Rect.unit (s := S1024x2048) ![512 * c.val, 128 * kb.val] S512x128.size (xt_inb_load c kb)).toLoadRect (xcS x0)
    (xcPieces_eq arg1 harg1 x0) (ix2 b ⟨32 * g.val + i.val, by omega⟩) (xcPieces_cover arg1 harg1 x0 _)
  rw [List.append_nil] at h
  refine h.trans (congrArg (xcS x0) (funext (Fin.forall_fin_two.mpr ⟨Fin.ext ?_, Fin.ext ?_⟩)))
  · show 512 * c.val + 1 * b.val = 512 * c.val + (0 + 1 * b.val); omega
  · show 128 * kb.val + 1 * (32 * g.val + i.val)
      = (32 * ((33 * (4 * kb.val + g.val) + 1 * i.val) / 33) + (33 * (4 * kb.val + g.val) + 1 * i.val) % 33) % 2048
    omega

theorem xLoad_apply (c : Fin 2) (j : Fin 8) (h : Fin 2) (i : Fin 16) (g : Fin 8) (b : Fin 512) :
    xLoad arg1 harg1 arg6 arg12 x0 c j h i (ix2 g b)
      = wide (xcS x0 (ix2 ⟨512 * c.val + b.val, by omega⟩
          ⟨32 * (8 * (i.val % 8) + g.val) + (4 * j.val + 2 * h.val + i.val / 8), by omega⟩)) := by
  have hc : (⟨c.val % 2, Nat.mod_lt _ (by decide)⟩ : Fin 2) = c := Fin.ext (by simp only []; omega)
  unfold xLoad
  rw [xtUpTo, hc]
  refine (readCov_of_pieces (Val := Elt F) arg12.view (xtHalf arg1 harg1 arg6 x0 c) _
    ⟨![33 * 8 * (i.val % 8) + 4 * j.val + 2 * h.val + i.val / 8, 0], S8x512.size, ![33, 1], xl_inb j h i⟩ (xtG x0 c)
    (xtHalf_eq arg1 harg1 arg6 x0 c) (ix2 g b) ?_).trans ?_
  · refine ⟨_, List.mem_flatMap.mpr ⟨⟨(8 * (i.val % 8) + g.val) / 4, by omega⟩, mem_rev _, List.mem_map.mpr
      ⟨⟨(8 * (i.val % 8) + g.val) % 4, by omega⟩, mem_rev _, rfl⟩⟩, mem_unit2 _ _ (xt_inb _ _) _ ?_ ?_⟩
    · show 33 * (4 * ((8 * (i.val % 8) + g.val) / 4) + (8 * (i.val % 8) + g.val) % 4)
          ≤ 33 * 8 * (i.val % 8) + 4 * j.val + 2 * h.val + i.val / 8 + 33 * g.val
        ∧ 33 * 8 * (i.val % 8) + 4 * j.val + 2 * h.val + i.val / 8 + 33 * g.val
          < 33 * (4 * ((8 * (i.val % 8) + g.val) / 4) + (8 * (i.val % 8) + g.val) % 4) + 32
      omega
    · show 0 ≤ 0 + 1 * b.val ∧ 0 + 1 * b.val < 0 + 512; omega
  · refine congrArg (fun y => wide (xcS x0 y)) (funext (Fin.forall_fin_two.mpr ⟨Fin.ext ?_, Fin.ext ?_⟩))
    · show 512 * c.val + (0 + 1 * b.val) = 512 * c.val + b.val; omega
    · show (32 * ((33 * 8 * (i.val % 8) + 4 * j.val + 2 * h.val + i.val / 8 + 33 * g.val) / 33)
          + (33 * 8 * (i.val % 8) + 4 * j.val + 2 * h.val + i.val / 8 + 33 * g.val) % 33) % 2048
        = 32 * (8 * (i.val % 8) + g.val) + (4 * j.val + 2 * h.val + i.val / 8)
      have e1 : (33 * 8 * (i.val % 8) + 4 * j.val + 2 * h.val + i.val / 8 + 33 * g.val) / 33 = 8 * (i.val % 8) + g.val := by omega
      have e2 : (33 * 8 * (i.val % 8) + 4 * j.val + 2 * h.val + i.val / 8 + 33 * g.val) % 33
          = 4 * j.val + 2 * h.val + i.val / 8 := by omega
      rw [e1, e2]; omega

theorem xp_concat (f : Fin 16 → Vec F S8x512 .f32) (R : Fin 128) (b : Fin 512) :
    concatenate S128x512 0 (List.ofFn fun i : Fin 16 => ⟨S8x512, f i⟩) xp_concatenates (ix2 R b)
      = f ⟨R.val / 8, by omega⟩ (ix2 ⟨R.val % 8, by omega⟩ b) := by
  refine concatenate_ofFn_apply (0 : Fin S128x512.rank) f _ rfl 8 rfl _ ⟨R.val / 8, by omega⟩ rfl
    (ix2 ⟨R.val % 8, by omega⟩ b) rfl ?_
  intro b' hb
  match b', hb with
  | ⟨0, _⟩, hb => exact absurd rfl hb
  | ⟨1, _⟩, _ => rfl

theorem xp_cast (B : FVec F S128x512 .f32) (r : Fin 512) (R : Fin 128) :
    shapeCast S512x128 (truncf .fp8e4m3 (transpose S512x128 [1, 0] B transposes_S128x512_p1_0_S512x128) bitsLt_fp8e4m3_f32)
      shapeCasts_S512x128_S512x128 (ix2 r R) = FloatOps.truncf .fp8e4m3 bitsLt_fp8e4m3_f32 (B (ix2 R r)) := by
  pointwise

theorem xpPieces_eq (P : View.Piece (Elt F) S1024x2048 .fp8e4m3) (hP : P ∈ xpPieces arg1 harg1 arg6 arg12 x0) (x : P.1.shape.Idx) :
    P.2 x = xpS x0 (P.1.emb x) := by
  unfold xpPieces at hP
  simp only [List.mem_flatMap, List.mem_map] at hP
  obtain ⟨c, -, j, -, h, -, rfl⟩ := hP
  obtain ⟨r, R, rfl⟩ : ∃ (r : Fin 512) (R : Fin 128), x = ix2 r R := ⟨x 0, x 1, eq_ix2 x⟩
  refine (xp_cast _ r R).trans (congrArg (FloatOps.truncf .fp8e4m3 bitsLt_fp8e4m3_f32) ((xp_concat _ R r).trans
    ((xLoad_apply arg1 harg1 arg6 arg12 x0 c j h _ _ _).trans ?_)))
  refine congrArg (fun y => wide (xcS x0 y)) (funext (Fin.forall_fin_two.mpr ⟨Fin.ext ?_, Fin.ext ?_⟩))
  · show 512 * c.val + r.val = 512 * c.val + 1 * r.val; omega
  · show 32 * (8 * (R.val / 8 % 8) + R.val % 8) + (4 * j.val + 2 * h.val + R.val / 8 / 8)
      = (32 * ((256 * j.val + 128 * h.val + 1 * R.val) % 64) + 4 * ((256 * j.val + 128 * h.val + 1 * R.val) / 256)
          + (256 * j.val + 128 * h.val + 1 * R.val) / 64 % 4) % 2048
    have e1 : (256 * j.val + 128 * h.val + 1 * R.val) % 64 = 8 * (R.val / 8 % 8) + R.val % 8 := by omega
    have e2 : (256 * j.val + 128 * h.val + 1 * R.val) / 256 = j.val := by omega
    have e3 : (256 * j.val + 128 * h.val + 1 * R.val) / 64 % 4 = 2 * h.val + R.val / 8 / 8 := by omega
    rw [e1, e2, e3]; omega

theorem xpPieces_cover (y : S1024x2048.Idx) : ∃ P ∈ xpPieces arg1 harg1 arg6 arg12 x0, y ∈ P.1.set := by
  have h0 : (y 0).val < 1024 := (y 0).isLt
  have h1 : (y 1).val < 2048 := (y 1).isLt
  refine ⟨_, List.mem_flatMap.mpr ⟨⟨(y 0).val / 512, by omega⟩, mem_rev _, List.mem_flatMap.mpr ⟨⟨(y 1).val / 256, by omega⟩, mem_rev _,
    List.mem_map.mpr ⟨⟨(y 1).val / 128 % 2, by omega⟩, mem_rev _, rfl⟩⟩⟩, mem_unit2 _ _ (xp_inb _ _ _) _ ?_ ?_⟩
  · show 512 * ((y 0).val / 512) ≤ (y 0).val ∧ (y 0).val < 512 * ((y 0).val / 512) + 512; omega
  · show 256 * ((y 1).val / 256) + 128 * ((y 1).val / 128 % 2) ≤ (y 1).val
      ∧ (y 1).val < 256 * ((y 1).val / 256) + 128 * ((y 1).val / 128 % 2) + 128
    omega

end

end Cert.KernelIdeal.Hand

end
-- ==== Proof.Value.KernelRow.lean ====
/- The kernel's row of codes and its scale, in numbers. -/
module

public import proofs.«01_k».proof.Proof.Value.Numbers
public import proofs.«01_k».proof.Proof.Ideal.RowValues

@[expose] public section

set_option maxRecDepth 16384

noncomputable section

namespace Cert.Hand

open Idealize.ShloMosaic Idealize.ShloMosaic.TcCoe
open Cert.KernelIdeal Cert.KernelIdeal.Gen
open scoped BigOperators

theorem ofBool_eq_one (p : Prop) [Decidable p] : (BitVec.ofBool (decide p) = 1#1) ↔ p := by
  by_cases h : p <;> simp [h]

theorem cmp_oeq (x y : EReal) : Ideal.cmp .oeq x y = 1#1 ↔ x = y := by
  unfold Ideal.cmp
  exact ofBool_eq_one _

theorem and_eq_one (a b : BitVec 1) : (a &&& b = 1#1) ↔ a = 1#1 ∧ b = 1#1 := by
  revert a b; decide

theorem slt_246 : ∀ k : Fin 256, (BitVec.ofBool ((BitVec.ofNat 32 k.val).slt 246#32) = 1#1) ↔ k.val < 246 := by decide +kernel

theorem k_pay5 (B : Vec Ideal S128x2048 .bf16) (i : S128x2048.Idx) : k0_pay5 B i = B i := by
  unfold k0_pay5
  exact shapeCast_apply _ _ i i rfl

/-- The rows' greatest magnitudes. -/
def maxV (B : Vec Ideal S128x2048 .bf16) : FVec Ideal S128 .f32 :=
  multiReduction (F := Ideal) .maximumf [1] S128 (absf (k0_pay5 B)) 0xFF800000#32 reduces_S128x2048_S128 (.inl rfl) rfl

/-- … scaled. -/
def scaledV (B : Vec Ideal S128x2048 .bf16) : FVec Ideal S128x1 .f32 :=
  mulf (shapeCast S128x1 (maxV B) shapeCasts_S128_S128x1) (broadcast S128x1 (Scalar.ofBits (F := Ideal) .f32 0x3B124925#32))

/-- The lanes that count. -/
def lanesV (Y : FVec Ideal S128x1 .f32) : FVec Ideal S128x256 .f32 :=
  select (andi (cmpi .slt (iota .tc S128x256 32 [1] iota_S128x256_d1_w32) (broadcast S128x256 246#32))
        (cmpf .oge (broadcastTo S128x256 Y broadcasts_S128x1_S128x256)
          (bitcastToFloat .f32 (shli (addi (subi (iota .tc S128x256 32 [1] iota_S128x256_d1_w32) (broadcast S128x256 126#32)) (broadcast S128x256 127#32)) (broadcast S128x256 23#32)))))
      (broadcast S128x256 (Scalar.ofBits (F := Ideal) .f32 0x3F800000#32)) (broadcast S128x256 (Scalar.ofBits (F := Ideal) .f32 0x00000000#32))

/-- Their number. -/
def countV (Y : FVec Ideal S128x1 .f32) : FVec Ideal S128 .f32 :=
  multiReduction (F := Ideal) .add [1] S128 (lanesV Y) 0x00000000#32 reduces_S128x256_S128 (.inl rfl) rfl

theorem k_pay6_eq (B : Vec Ideal S128x2048 .bf16) : k0_pay6 (F := Ideal) B =
    select (cmpf .oeq (scaledV B) (broadcast S128x1 (Scalar.ofBits (F := Ideal) .f32 0x00000000#32))) (broadcast S128x1 0#32)
      (subi (fptosi 32 (shapeCast S128x1 (countV (scaledV B)) shapeCasts_S128_S128x1)) (broadcast S128x1 126#32)) := rfl

theorem k_max (B : Vec Ideal S128x2048 .bf16) (i : Fin 128) : maxV B (ix1 i) = rowMax fun k => B (ix2 i k) := by
  refine (Ideal.multiReduction_maximumf_single _ _ _ _ _ _).trans ?_
  unfold rowMax
  refine congrArg (fun f => (Finset.univ : Finset (Fin 2048)).fold max (Ideal.ofBits .f32 0xFF800000#32) f) (funext fun k => ?_)
  have e : reduces_S128x2048_S128.lift (ix1 i) k = ix2 i k := funext (Fin.forall_fin_two.mpr ⟨Fin.ext rfl, Fin.ext rfl⟩)
  show max ((k0_pay5 B) (reduces_S128x2048_S128.lift (ix1 i) k)) (-((k0_pay5 B) (reduces_S128x2048_S128.lift (ix1 i) k))) = _
  rw [e]
  have e5 := k_pay5 B (ix2 i (k : Fin 2048))
  exact congrArg₂ max e5 (congrArg Neg.neg e5)

/-- The count along the lanes, of a column of values. -/
theorem k_count (Y : FVec Ideal S128x1 .f32) (i : Fin 128) : countV Y (ix1 i) = ((count (Y (ix2 i 0)) : ℕ) : EReal) := by
  refine (Ideal.multiReduction_add_single _ _ _ _ _ _).trans ?_
  rw [← sum_count_masked]
  refine Finset.sum_congr rfl fun k _ => ?_
  have e : reduces_S128x256_S128.lift (ix1 i) k = ix2 i k := funext (Fin.forall_fin_two.mpr ⟨Fin.ext rfl, Fin.ext rfl⟩)
  rw [e]
  have eY : broadcastTo S128x256 Y broadcasts_S128x1_S128x256 (ix2 i k) = Y (ix2 i 0) :=
    broadcastTo_apply _ _ (ix2 i k) (ix2 i 0) (Fin.forall_fin_two.mpr ⟨rfl, rfl⟩)
  have eI : iota .tc S128x256 32 [1] iota_S128x256_d1_w32 (ix2 i k) = BitVec.ofNat 32 k.val := by
    pointwise
  show (if (BitVec.ofBool ((iota .tc S128x256 32 [1] iota_S128x256_d1_w32 (ix2 i k)).slt 246#32)
      &&& BitVec.ofBool (decide (Ideal.ofBits .f32 ((iota .tc S128x256 32 [1] iota_S128x256_d1_w32 (ix2 i k) - 126#32 + 127#32) <<< 23)
        ≤ broadcastTo S128x256 Y broadcasts_S128x1_S128x256 (ix2 i k)))) = 1#1 then Ideal.ofBits .f32 0x3F800000#32 else Ideal.ofBits .f32 0x00000000#32) = _
  rw [eI, eY, Ideal.ofBits_one_f32, Ideal.ofBits_zero_f32]
  refine if_congr ?_ rfl rfl
  rw [and_eq_one, ofBool_eq_one]
  exact and_congr (slt_246 k) Iff.rfl

theorem select_exponent (Y C : FVec Ideal S128x1 .f32) (j : S128x1.Idx) :
    select (cmpf .oeq Y (broadcast S128x1 (Scalar.ofBits (F := Ideal) .f32 0x00000000#32))) (broadcast S128x1 0#32)
      (subi (fptosi 32 C) (broadcast S128x1 126#32)) j
    = if Ideal.cmp .oeq (Y j) (Ideal.ofBits .f32 0x00000000#32) = 1#1 then 0#32 else Ideal.fptosi 32 (C j) - 126#32 := rfl

/-- A row's exponent. -/
theorem k_pay6 (B : Vec Ideal S128x2048 .bf16) (i : Fin 128) :
    k0_pay6 (F := Ideal) B (ix2 i 0) = expoW (scaled fun k => B (ix2 i k)) := by
  have hy : scaledV B (ix2 i 0) = scaled fun k => B (ix2 i k) := by
    show shapeCast S128x1 (maxV B) shapeCasts_S128_S128x1 (ix2 i 0) * Ideal.ofBits .f32 0x3B124925#32 = _
    rw [shapeCast_apply _ _ (ix2 i 0) (ix1 i) (by rw [Shape.rowMajor_val_one, Shape.rowMajor_val_two]; show i.val = i.val * 1 + 0; omega), k_max]
    rfl
  have hc := k_count (scaledV B) i
  rw [k_pay6_eq]
  refine (select_exponent _ _ _).trans ?_
  rw [shapeCast_apply _ _ (ix2 i 0) (ix1 i) (by rw [Shape.rowMajor_val_one, Shape.rowMajor_val_two]; show i.val = i.val * 1 + 0; omega),
    hc, hy, Ideal.ofBits_zero_f32, fptosi_nat _ (count_le _)]
  unfold expoW
  exact if_congr (cmp_oeq _ _) rfl rfl

/-- A row times the inverse of its scale. -/
theorem k_pay7 (B : Vec Ideal S128x2048 .bf16) (i : Fin 128) (k : Fin 2048) :
    k0_pay7 (F := Ideal) B (ix2 i k) = B (ix2 i k) * pow2 (-expo (scaled fun k => B (ix2 i k))) := by
  rw [← ofBits_down, ← k_pay6]
  refine congrArg₂ (fun a b : EReal => a * b) (k_pay5 B (ix2 i k)) ?_
  exact broadcastTo_apply _ _ (ix2 i k) (ix2 i 0) (Fin.forall_fin_two.mpr ⟨rfl, rfl⟩)

/-- The codes. -/
theorem k_pay8 (B : Vec Ideal S128x2048 .bf16) (i : Fin 128) (k : Fin 2048) :
    k0_pay8 (F := Ideal) (k0_pay7 B) (FloatOps.ofBits .f32 3286237184#32) (ix2 i k)
      = min (Ideal.ofBits .f32 0x43E00000#32) (max (Ideal.ofBits .f32 0xC3E00000#32) (B (ix2 i k) * pow2 (-expo (scaled fun k => B (ix2 i k))))) := by
  rw [← k_pay7]; rfl

theorem k_pay9 (W : IVec S128x1 32) (i : Fin 128) (l : Fin 128) :
    k0_pay9 (F := Ideal) W (ix2 i l) = Ideal.ofBits .f32 ((W (ix2 i 0) + 127#32) <<< 23) := by
  unfold k0_pay9
  refine (broadcastTo_apply (s := S128x1) _ _ (ix2 i l) (ix2 i 0) (Fin.forall_fin_two.mpr ⟨rfl, rfl⟩)).trans ?_
  exact shapeCast_apply _ _ (ix2 i 0) (ix2 i 0) rfl

/-- The scale along a row. -/
theorem k_pay10 (B : Vec Ideal S128x2048 .bf16) (i : Fin 128) (l : Fin 128) :
    k0_pay10 (F := Ideal) (k0_pay6 B) (ix2 i l) = pow2 (expo (scaled fun k => B (ix2 i k))) := by
  rw [← ofBits_up, ← k_pay6, ← k_pay9 _ i l]
  unfold k0_pay10
  exact shapeCast_apply _ _ (ix2 i l) (ix2 i l) rfl

/-- The scale. -/
theorem k_pay11 (B : Vec Ideal S128x2048 .bf16) (i : Fin 128) :
    k0_pay11 (F := Ideal) (k0_pay6 B) (ix3 0 0 i) = pow2 (expo (scaled fun k => B (ix2 i k))) := by
  rw [← ofBits_up, ← k_pay6]
  unfold k0_pay11
  show shapeCast S1x1x128 _ shapeCasts_S1x128_S1x1x128 (ix3 0 0 i) = _
  refine (shapeCast_apply _ _ (ix3 0 0 i) (ix2 0 i) (by rw [Shape.rowMajor_val_two, Shape.rowMajor_val_three]; rfl)).trans ?_
  refine (shapeCast_apply _ _ (ix2 0 i) (ix1 i) (by rw [Shape.rowMajor_val_one, Shape.rowMajor_val_two]; show i.val = 0 * 128 + i.val; omega)).trans ?_
  refine (Ideal.multiReduction_add_single _ _ _ _ _ _).trans ?_
  have e : ∀ k : Fin 128, reduces_S128x128_S128.lift (ix1 i) k = ix2 k i := fun k => funext (Fin.forall_fin_two.mpr ⟨Fin.ext rfl, Fin.ext rfl⟩)
  refine (Finset.sum_eq_single i (fun k _ hk => ?_) (fun h => absurd (Finset.mem_univ i) h)).trans ?_
  · rw [e k]
    have : (cmpi .eq (iota .tc S128x128 32 [0] iota_S128x128_d0_w32) (iota .tc S128x128 32 [1] iota_S128x128_d1_w32)) (ix2 k i) ≠ 1#1 := by
      have e0 : iota .tc S128x128 32 [0] iota_S128x128_d0_w32 (ix2 k i) = BitVec.ofNat 32 k.val := by pointwise
      have e1 : iota .tc S128x128 32 [1] iota_S128x128_d1_w32 (ix2 k i) = BitVec.ofNat 32 i.val := by pointwise
      show BitVec.ofBool (iota .tc S128x128 32 [0] iota_S128x128_d0_w32 (ix2 k i) == iota .tc S128x128 32 [1] iota_S128x128_d1_w32 (ix2 k i)) ≠ 1#1
      rw [e0, e1]
      intro h
      refine hk (Fin.ext ?_)
      have h2 : BitVec.ofNat 32 k.val = BitVec.ofNat 32 i.val := by
        by_contra hne
        rw [beq_eq_false_iff_ne.mpr hne] at h
        exact absurd h (by decide)
      have h3 := congrArg BitVec.toNat h2
      simp only [BitVec.toNat_ofNat] at h3
      omega
    exact (if_neg this).trans Ideal.ofBits_zero_f32
  · rw [e i, ← k_pay9 _ i i]
    have : (cmpi .eq (iota .tc S128x128 32 [0] iota_S128x128_d0_w32) (iota .tc S128x128 32 [1] iota_S128x128_d1_w32)) (ix2 i i) = 1#1 := by
      have e0 : iota .tc S128x128 32 [0] iota_S128x128_d0_w32 (ix2 i i) = BitVec.ofNat 32 i.val := by pointwise
      have e1 : iota .tc S128x128 32 [1] iota_S128x128_d1_w32 (ix2 i i) = BitVec.ofNat 32 i.val := by pointwise
      show BitVec.ofBool (iota .tc S128x128 32 [0] iota_S128x128_d0_w32 (ix2 i i) == iota .tc S128x128 32 [1] iota_S128x128_d1_w32 (ix2 i i)) = 1#1
      rw [e0, e1, beq_self_eq_true]; rfl
    exact if_pos this

end Cert.Hand

end
-- ==== Proof.Ideal.BlockValues.lean ====
/- What the result's block is, as a function of the four argument blocks. -/
module

public import proofs.«01_k».proof.Proof.Ideal.RowValues

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-- Four blocks of 256 rows of the result. -/
def hBlk (xp : Vec F S1024x2048 .fp8e4m3) (sb : Vec F S1024x128 .f32) (x1 : Vec F S2x256x1024 .i8) (x2 : Vec F S2x64x256 .i32)
    (x3 : Vec F S2x256 .f32) (b : Fin 4) : FVec F S256x256 .bf16 :=
  hV (fun j x => xp ((xpRect b j).idx x)) (fun s j x => wS x1 x2 ((wRect s j).idx x)) (fun x => sb ((scRect b).idx x))
    (fun s x => x3 ((wsRect s).idx x))

/-- The result's block. -/
def hS (xp : Vec F S1024x2048 .fp8e4m3) (sb : Vec F S1024x128 .f32) (x1 : Vec F S2x256x1024 .i8) (x2 : Vec F S2x64x256 .i32)
    (x3 : Vec F S2x256 .f32) : Vec F S1024x256 .bf16 := fun y =>
  hBlk xp sb x1 x2 x3 ⟨(y 0).val / 256 % 4, Nat.mod_lt _ (by decide)⟩ (ix2 ⟨(y 0).val % 256, Nat.mod_lt _ (by decide)⟩ (y 1))

/-- The result's pieces in closed form. -/
def hList (xp : Vec F S1024x2048 .fp8e4m3) (sb : Vec F S1024x128 .f32) (x1 : Vec F S2x256x1024 .i8) (x2 : Vec F S2x64x256 .i32)
    (x3 : Vec F S2x256 .f32) : List (View.Piece (Elt F) S1024x256 .bf16) :=
  (List.finRange 4).reverse.map fun c => ⟨Rect.unit ![256 * c.val, 0] S256x256.size (h_inb c), hBlk xp sb x1 x2 x3 c⟩

theorem hList_eq (xp : Vec F S1024x2048 .fp8e4m3) (sb : Vec F S1024x128 .f32) (x1 : Vec F S2x256x1024 .i8) (x2 : Vec F S2x64x256 .i32)
    (x3 : Vec F S2x256 .f32) (P : View.Piece (Elt F) S1024x256 .bf16) (hP : P ∈ hList xp sb x1 x2 x3) (x : P.1.shape.Idx) :
    P.2 x = hS xp sb x1 x2 x3 (P.1.emb x) := by
  unfold hList at hP
  obtain ⟨r, -, rfl⟩ := List.mem_map.mp hP
  have key : ∀ (r' : Fin 4) (i' : S256x256.Idx), r' = r → i' = x →
      hBlk xp sb x1 x2 x3 r x = hBlk xp sb x1 x2 x3 r' i' := by
    rintro _ _ rfl rfl; rfl
  have h0 : (x 0).val < 256 := (x 0).isLt
  refine key _ _ (Fin.ext ?_) (funext (Fin.forall_fin_two.mpr ⟨Fin.ext ?_, Fin.ext ?_⟩))
  · show (256 * r.val + 1 * (x 0).val) / 256 % 4 = r.val; omega
  · show (256 * r.val + 1 * (x 0).val) % 256 = (x 0).val; omega
  · show 0 + 1 * (x 1).val = (x 1).val; omega

theorem hList_cover (xp : Vec F S1024x2048 .fp8e4m3) (sb : Vec F S1024x128 .f32) (x1 : Vec F S2x256x1024 .i8) (x2 : Vec F S2x64x256 .i32)
    (x3 : Vec F S2x256 .f32) (y : S1024x256.Idx) : ∃ P ∈ hList xp sb x1 x2 x3, y ∈ P.1.set := by
  have h0 : (y 0).val < 1024 := (y 0).isLt
  have h1 : (y 1).val < 256 := (y 1).isLt
  refine ⟨_, List.mem_map.mpr ⟨⟨(y 0).val / 256, by omega⟩, mem_rev _, rfl⟩, mem_unit2 _ _ (h_inb _) _ ?_ ?_⟩
  · show 256 * ((y 0).val / 256) ≤ (y 0).val ∧ (y 0).val < 256 * ((y 0).val / 256) + 256; omega
  · show 0 ≤ (y 1).val ∧ (y 1).val < 0 + 256; omega

section
variable (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (xs6 : Vec F S22x1024x256 .f32) (x5 : Vec F S1024x2048 .fp8e4m3) (x6 : Vec F S4x1x256 .f32)

theorem wsLoad_eq (s : Fin 2) : wsLoad arg4 harg4 x3 s = fun x => x3 ((wsRect s).idx x) :=
  funext fun x => harg4.readAt_unread x3 (wsRect s) x

theorem xpLoad_eq (b : Fin 4) (j : Fin 8) : arg10.view.readCov (xpPieces arg1 harg1 arg6 arg12 x0) (xpRect b j)
    = fun x => xpS x0 ((xpRect b j).idx x) := by
  funext x
  have h := readCov_of_pieces (Val := Elt F) arg10.view (xpPieces arg1 harg1 arg6 arg12 x0) [] (xpRect b j) (xpS x0)
    (xpPieces_eq arg1 harg1 arg6 arg12 x0) x (xpPieces_cover arg1 harg1 arg6 arg12 x0 _)
  rwa [List.append_nil] at h

theorem scLoad_eq (b : Fin 4) : arg11.view.readCov (xsbPieces arg1 harg1 x0) (scRect b)
    = fun x => xsbS x0 ((scRect b).idx x) := by
  funext x
  have h := readCov_of_pieces (Val := Elt F) arg11.view (xsbPieces arg1 harg1 x0) [] (scRect b) (xsbS x0)
    (xsbPieces_eq arg1 harg1 x0) x (xsbPieces_cover arg1 harg1 x0 _)
  rwa [List.append_nil] at h

theorem wLoad_all : wLoad arg2 harg2 arg3 harg3 arg13 arg14 arg15 x1 x2 = fun s j x => wS x1 x2 ((wRect s j).idx x) :=
  funext fun s => funext fun j => wLoad_eq _ _ _ _ _ _ _ _ _ s j

theorem listB (hc0 : ¬cond0_0 i) (hc1 : ¬cond0_1 i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7 xs6 x5 x6).1
      = hList xs0 xs1 x1 x2 x3 := by
  have e0 : (fun (b : Fin 4) (j : Fin 8) => View.readAt (Elt F) arg10.view (xpRect b j) (harg10.unread xs0)) = fun b j x => xs0 ((xpRect b j).idx x) :=
    funext fun b => funext fun j => funext fun x => harg10.readAt_unread xs0 _ x
  have e1 : (fun (b : Fin 4) => View.readAt (Elt F) arg11.view (scRect b) (harg11.unread xs1)) = fun b x => xs1 ((scRect b).idx x) :=
    funext fun b => funext fun x => harg11.readAt_unread xs1 _ x
  have e2 : wsLoad arg4 harg4 x3 = fun s x => x3 ((wsRect s).idx x) := funext fun s => wsLoad_eq arg4 harg4 x3 s
  rw [topB, e0, e1, e2, wLoad_all]; rfl

theorem listC (hc0 : ¬cond0_0 i) (hc1 : cond0_1 i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7 xs6 x5 x6).1
      = hList xs0 xs1 x1 x2 x3 := by
  have e0 : (fun (b : Fin 4) (j : Fin 8) => View.readAt (Elt F) arg10.view (xpRect b j) (harg10.unread xs0)) = fun b j x => xs0 ((xpRect b j).idx x) :=
    funext fun b => funext fun j => funext fun x => harg10.readAt_unread xs0 _ x
  have e1 : (fun (b : Fin 4) => View.readAt (Elt F) arg11.view (scRect b) (harg11.unread xs1)) = fun b x => xs1 ((scRect b).idx x) :=
    funext fun b => funext fun x => harg11.readAt_unread xs1 _ x
  have e2 : wsLoad arg4 harg4 x3 = fun s x => x3 ((wsRect s).idx x) := funext fun s => wsLoad_eq arg4 harg4 x3 s
  rw [topC, e0, e1, e2, wLoad_all]; rfl

theorem listA (hc0 : cond0_0 i) (hc1 : ¬cond0_1 i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1
      = hList (xpS x0) (xsbS x0) x1 x2 x3 := by
  have e0 : (fun (b : Fin 4) (j : Fin 8) => arg10.view.readCov (xpPieces arg1 harg1 arg6 arg12 x0) (xpRect b j)) = fun b j x => xpS x0 ((xpRect b j).idx x) :=
    funext fun b => funext fun j => xpLoad_eq arg1 harg1 arg6 arg10 arg12 x0 b j
  have e1 : (fun (b : Fin 4) => arg11.view.readCov (xsbPieces arg1 harg1 x0) (scRect b)) = fun b x => xsbS x0 ((scRect b).idx x) :=
    funext fun b => scLoad_eq arg1 harg1 arg11 x0 b
  have e2 : wsLoad arg4 harg4 x3 = fun s x => x3 ((wsRect s).idx x) := funext fun s => wsLoad_eq arg4 harg4 x3 s
  rw [topA, e0, e1, e2, wLoad_all]; rfl

end

end Cert.KernelIdeal.Hand

end
-- ==== Proof.Value.KernelValue.lean ====
/- The kernel's codes, scales and blocks, in numbers. -/
module

public import proofs.«01_k».proof.Proof.Value.KernelBlock
public import proofs.«01_k».proof.Proof.Value.KernelRow
public import proofs.«01_k».proof.Proof.Ideal.BlockValues

@[expose] public section

set_option maxRecDepth 16384

noncomputable section

namespace Cert.Hand

open Idealize.ShloMosaic Idealize.ShloMosaic.TcCoe
open Cert.KernelIdeal Cert.KernelIdeal.Gen Cert.KernelIdeal.Hand
open scoped BigOperators

theorem rows_apply (x0 : Vec Ideal S1024x2048 .bf16) (g : Fin 8) (i : Fin 128) (r : Fin 1024) (h : r.val = 128 * g.val + i.val) :
    (fun k : Fin 2048 => xRowsS x0 g (ix2 i k)) = fun k => x0 (ix2 r k) := by
  funext k
  unfold xRowsS
  have key : ∀ r' : Fin 1024, r' = r → x0 (ix2 r' k) = x0 (ix2 r k) := by rintro _ rfl; rfl
  exact key _ (Fin.ext h.symm)

/-- The kernel's codes. -/
theorem xcS_apply (x0 : Vec Ideal S1024x2048 .bf16) (r : Fin 1024) (k : Fin 2048) :
    xcS x0 (ix2 r k) = codeOf (fun k => x0 (ix2 r k)) k := by
  have hr := rows_apply x0 ⟨r.val / 128 % 8, Nat.mod_lt _ (by decide)⟩ ⟨r.val % 128, Nat.mod_lt _ (by decide)⟩ r
    (by show r.val = 128 * (r.val / 128 % 8) + r.val % 128; omega)
  unfold xcS
  refine (k_pay8 (xRowsS x0 ⟨r.val / 128 % 8, Nat.mod_lt _ (by decide)⟩) ⟨r.val % 128, Nat.mod_lt _ (by decide)⟩ k).trans ?_
  unfold codeOf
  rw [hr]
  have h1 : xRowsS x0 ⟨r.val / 128 % 8, Nat.mod_lt _ (by decide)⟩ (ix2 ⟨r.val % 128, Nat.mod_lt _ (by decide)⟩ k) = x0 (ix2 r k) := congrFun hr k
  rw [h1]

theorem xsbS_apply (x0 : Vec Ideal S1024x2048 .bf16) (r : Fin 1024) (l : Fin 128) :
    xsbS x0 (ix2 r l) = scaleOf (fun k => x0 (ix2 r k)) := by
  have hr := rows_apply x0 ⟨r.val / 128 % 8, Nat.mod_lt _ (by decide)⟩ ⟨r.val % 128, Nat.mod_lt _ (by decide)⟩ r
    (by show r.val = 128 * (r.val / 128 % 8) + r.val % 128; omega)
  unfold xsbS
  refine (k_pay10 (xRowsS x0 ⟨r.val / 128 % 8, Nat.mod_lt _ (by decide)⟩) ⟨r.val % 128, Nat.mod_lt _ (by decide)⟩ l).trans ?_
  unfold scaleOf
  rw [hr]

/-- The kernel's scales. -/
theorem xsS_apply (x0 : Vec Ideal S1024x2048 .bf16) (y : S4x1x256.Idx) (r : Fin 1024) (h : r.val = 256 * (y 0).val + (y 2).val) :
    xsS x0 y = scaleOf (fun k => x0 (ix2 r k)) := by
  have h0 : (y 0).val < 4 := (y 0).isLt
  have h2 : (y 2).val < 256 := (y 2).isLt
  have hr := rows_apply x0 ⟨(2 * (y 0).val + (y 2).val / 128) % 8, Nat.mod_lt _ (by decide)⟩ ⟨(y 2).val % 128, Nat.mod_lt _ (by decide)⟩ r
    (by show r.val = 128 * ((2 * (y 0).val + (y 2).val / 128) % 8) + (y 2).val % 128; omega)
  unfold xsS
  refine (k_pay11 (xRowsS x0 ⟨(2 * (y 0).val + (y 2).val / 128) % 8, Nat.mod_lt _ (by decide)⟩) ⟨(y 2).val % 128, Nat.mod_lt _ (by decide)⟩).trans ?_
  unfold scaleOf
  rw [hr]

/-- The codes in the order of the passes. -/
theorem xpS_apply (x0 : Vec Ideal S1024x2048 .bf16) (y : S1024x2048.Idx) (r : Fin 1024) (j : Fin 8) (kk : Fin 256)
    (h0 : (y 0).val = r.val) (h1 : (y 1).val = 256 * j.val + kk.val) :
    xpS x0 y = codeOf (fun k => x0 (ix2 r k)) (passOrder (j, kk)) := by
  rw [← xcS_apply]
  have key : ∀ (r' : Fin 1024) (k' : Fin 2048), r' = r → k' = passOrder (j, kk) → xcS x0 (ix2 r' k') = xcS x0 (ix2 r (passOrder (j, kk))) := by
    rintro _ _ rfl rfl; rfl
  refine Eq.trans ?_ (key (y 0) ⟨(32 * ((y 1).val % 64) + 4 * ((y 1).val / 256) + (y 1).val / 64 % 4) % 2048, Nat.mod_lt _ (by decide)⟩ (Fin.ext h0) (Fin.ext ?_))
  · rfl
  · show (32 * ((y 1).val % 64) + 4 * ((y 1).val / 256) + (y 1).val / 64 % 4) % 2048 = 32 * (kk.val % 64) + 4 * j.val + kk.val / 64
    have hj := j.isLt
    have hk := kk.isLt
    have e1 : (y 1).val % 64 = kk.val % 64 := by omega
    have e2 : (y 1).val / 256 = j.val := by omega
    have e3 : (y 1).val / 64 % 4 = kk.val / 64 := by omega
    rw [e1, e2, e3]
    exact Nat.mod_eq_of_lt (by omega)

/-- The places of a word rise. -/
def Rising (x : BitVec 32) : Prop := ∀ j : Fin 8, placeAt x (4 * j.val) < placeAt x (4 * j.val + 2)

theorem wByte_eq (x1 : Vec Ideal S2x256x1024 .i8) (x2 : Vec Ideal S2x64x256 .i32) (s : Fin 2) (n : Fin 256) (wd : Fin 64) (j : Fin 8) (p : ℕ)
    (hp : p < 4) (H : Rising (x2 (ix3 s wd n))) :
    wByte x1 x2 s n wd j p = weightOf (x2 (ix3 s wd n)) (x1 (ix3 s n ⟨16 * wd.val + 2 * j.val, by omega⟩))
      (x1 (ix3 s n ⟨16 * wd.val + 2 * j.val + 1, by omega⟩)) j.val p :=
  denseByte_eq p hp _ _ _ _ (H j) _ _

theorem wS_apply (x1 : Vec Ideal S2x256x1024 .i8) (x2 : Vec Ideal S2x64x256 .i32) (H : ∀ s wd n, Rising (x2 (ix3 s wd n)))
    (y : S2x512x256.Idx) (s : Fin 2) (n : Fin 256) (j : Fin 8) (kk : Fin 256)
    (h0 : (y 0).val = s.val) (h1 : (y 1).val = 64 * j.val + kk.val / 4) (h2 : (y 2).val = n.val) :
    byteN (kk.val % 4) (wS x1 x2 y) = columnOf (fun wd => x2 (ix3 s wd n)) (fun b => x1 (ix3 s n b)) (passOrder (j, kk)) := by
  have hj := j.isLt
  have hk := kk.isLt
  rw [wS_eq x1 x2 y s n ⟨kk.val / 4 % 16, Nat.mod_lt _ (by decide)⟩ ⟨kk.val / 64, by omega⟩ j h0
    (by show (y 1).val = 64 * j.val + 16 * (kk.val / 64) + kk.val / 4 % 16; omega) h2 (kk.val % 4) (Nat.mod_lt _ (by decide)),
    wByte_eq _ _ _ _ _ _ _ (by show kk.val / 64 < 4; omega) (H _ _ _)]
  unfold columnOf
  have hK : (passOrder (j, kk)).val = 32 * (kk.val % 64) + 4 * j.val + kk.val / 64 := rfl
  have e0 : 32 * (kk.val % 64) + 4 * j.val + kk.val / 64 = 4 * (8 * (kk.val % 64) + j.val) + kk.val / 64 := by omega
  have e1 : (passOrder (j, kk)).val / 32 = kk.val % 64 := by rw [hK]; omega
  have e2 : (passOrder (j, kk)).val / 4 % 8 = j.val := by
    have : (passOrder (j, kk)).val / 4 = 8 * (kk.val % 64) + j.val := by rw [hK, e0]; omega
    rw [this]; omega
  have e3 : (passOrder (j, kk)).val % 4 = kk.val / 64 := by rw [hK, e0]; omega
  have e4 : 4 * (kk.val / 4 % 16) + kk.val % 4 = kk.val % 64 := by omega
  have key : ∀ (wd wd' : Fin 64) (b0 b0' b1 b1' : Fin 1024) (j' p' : ℕ), wd = wd' → b0 = b0' → b1 = b1' → j' = j.val → p' = kk.val / 64 →
      weightOf (x2 (ix3 s wd n)) (x1 (ix3 s n b0)) (x1 (ix3 s n b1)) j.val (kk.val / 64)
        = weightOf (x2 (ix3 s wd' n)) (x1 (ix3 s n b0')) (x1 (ix3 s n b1')) j' p' := by
    rintro _ _ _ _ _ _ _ _ rfl rfl rfl rfl rfl; rfl
  refine key _ _ _ _ _ _ _ _ (Fin.ext ?_) (Fin.ext ?_) (Fin.ext ?_) e2 e3
  · exact e4.trans e1.symm
  · show 16 * (4 * (kk.val / 4 % 16) + kk.val % 4) + 2 * j.val = 16 * ((passOrder (j, kk)).val / 32) + 2 * ((passOrder (j, kk)).val / 4 % 8)
    rw [e1, e2, e4]
  · show 16 * (4 * (kk.val / 4 % 16) + kk.val % 4) + 2 * j.val + 1 = 16 * ((passOrder (j, kk)).val / 32) + 2 * ((passOrder (j, kk)).val / 4 % 8) + 1
    rw [e1, e2, e4]

/-- One product of a block, its operands named. -/
theorem z_of (A : Fin 8 → Vec Ideal S256x256 .fp8e4m3) (W : Fin 8 → Vec Ideal S1x64x256 .i32) (SC : Vec Ideal S256x128 .f32) (w : Vec Ideal S1x256 .f32)
    (i n : Fin 256) (f : Fin 2048 → EReal) (c : Fin 2048 → BitVec 8) (v : EReal)
    (hA : ∀ (j : Fin 8) (kk : Fin 256), A j (ix2 i kk) = codeOf f (passOrder (j, kk)))
    (hW : ∀ (j : Fin 8) (kk : Fin 256), byteN (kk.val % 4) (W j (ix3 0 ⟨kk.val / 4, by omega⟩ n)) = c (passOrder (j, kk)))
    (hS : ∀ l : Fin 128, SC (ix2 i l) = scaleOf f) (hw : w (ix2 0 n) = v) :
    zV (accV A W) SC w (ix2 i n) = zOf f c v := by
  have e : (∑ j : Fin 8, passV (A j) (W j) (ix2 i n)) = ∑ k : Fin 2048, codeOf f k * Ideal.ofBits .fp8e4m3 (c k) := by
    rw [← sum_passes]
    refine Finset.sum_congr rfl fun j _ => ?_
    rw [passV_apply]
    refine Finset.sum_congr rfl fun kk _ => ?_
    rw [hA, hW]
  rw [zV_apply, accV_apply, hS, hw, e]
  rfl

theorem scale_at (x0 : Vec Ideal S1024x2048 .bf16) (b : Fin 4) (i : Fin 256) (l : Fin 128) (r : Fin 1024) (hr : r.val = 256 * b.val + i.val) :
    xsbS x0 ((scRect b).idx (ix2 i l)) = scaleOf (fun k => x0 (ix2 r k)) := by
  have key : ∀ y : S1024x128.Idx, y = ix2 r l → xsbS x0 y = scaleOf (fun k => x0 (ix2 r k)) := by
    rintro _ rfl; exact xsbS_apply _ _ _
  refine key _ (funext (Fin.forall_fin_two.mpr ⟨Fin.ext ?_, Fin.ext ?_⟩))
  · show 256 * b.val + 1 * i.val = r.val; omega
  · show 0 + 1 * l.val = l.val; omega

theorem column_scale_at (x3 : Vec Ideal S2x256 .f32) (s : Fin 2) (n : Fin 256) : x3 ((wsRect s).idx (ix2 0 n)) = x3 (ix2 s n) := by
  have key : ∀ y : S2x256.Idx, y = ix2 s n → x3 y = x3 (ix2 s n) := by rintro _ rfl; rfl
  refine key _ (funext (Fin.forall_fin_two.mpr ⟨Fin.ext ?_, Fin.ext ?_⟩))
  · show s.val + 1 * 0 = s.val; omega
  · show 0 + 1 * n.val = n.val; omega

/-- One product of a block. -/
theorem z_apply (x0 : Vec Ideal S1024x2048 .bf16) (x1 : Vec Ideal S2x256x1024 .i8) (x2 : Vec Ideal S2x64x256 .i32) (x3 : Vec Ideal S2x256 .f32)
    (H : ∀ s wd n, Rising (x2 (ix3 s wd n))) (b : Fin 4) (i n : Fin 256) (s : Fin 2) (r : Fin 1024) (hr : r.val = 256 * b.val + i.val) :
    zV (accV (fun j x => xpS x0 ((xpRect b j).idx x)) (fun j x => wS x1 x2 ((wRect s j).idx x))) (fun x => xsbS x0 ((scRect b).idx x))
      (fun x => x3 ((wsRect s).idx x)) (ix2 i n)
      = zOf (fun k => x0 (ix2 r k)) (columnOf (fun wd => x2 (ix3 s wd n)) (fun c => x1 (ix3 s n c))) (x3 (ix2 s n)) :=
  z_of _ _ _ _ i n _ _ _
    (fun j kk => xpS_apply x0 ((xpRect b j).idx (ix2 i kk)) r j kk
      (by show 256 * b.val + 1 * i.val = r.val; omega) (by show 256 * j.val + 1 * kk.val = 256 * j.val + kk.val; omega))
    (fun j kk => wS_apply x1 x2 H ((wRect s j).idx (ix3 0 ⟨kk.val / 4, by omega⟩ n)) s n j kk
      (by show s.val + 1 * 0 = s.val; omega) (by show 64 * j.val + 1 * (kk.val / 4) = 64 * j.val + kk.val / 4; omega)
      (by show 0 + 1 * n.val = n.val; omega))
    (fun l => scale_at x0 b i l r hr) (column_scale_at x3 s n)

theorem hBlk_apply (x0 : Vec Ideal S1024x2048 .bf16) (x1 : Vec Ideal S2x256x1024 .i8) (x2 : Vec Ideal S2x64x256 .i32) (x3 : Vec Ideal S2x256 .f32)
    (H : ∀ s wd n, Rising (x2 (ix3 s wd n))) (b : Fin 4) (i n : Fin 256) (r : Fin 1024) (hr : r.val = 256 * b.val + i.val) :
    hBlk (xpS x0) (xsbS x0) x1 x2 x3 b (ix2 i n)
      = hOf (zOf (fun k => x0 (ix2 r k)) (columnOf (fun wd => x2 (ix3 0 wd n)) (fun c => x1 (ix3 0 n c))) (x3 (ix2 0 n)))
          (zOf (fun k => x0 (ix2 r k)) (columnOf (fun wd => x2 (ix3 1 wd n)) (fun c => x1 (ix3 1 n c))) (x3 (ix2 1 n))) := by
  unfold hBlk
  refine (hV_apply _ _ _ _ _).trans ?_
  exact congrArg₂ hOf (z_apply x0 x1 x2 x3 H b i n 0 r hr) (z_apply x0 x1 x2 x3 H b i n 1 r hr)

/-- The kernel's block. -/
theorem hS_apply (x0 : Vec Ideal S1024x2048 .bf16) (x1 : Vec Ideal S2x256x1024 .i8) (x2 : Vec Ideal S2x64x256 .i32) (x3 : Vec Ideal S2x256 .f32)
    (H : ∀ s wd n, Rising (x2 (ix3 s wd n))) (r : Fin 1024) (n : Fin 256) :
    hS (xpS x0) (xsbS x0) x1 x2 x3 (ix2 r n)
      = hOf (zOf (fun k => x0 (ix2 r k)) (columnOf (fun wd => x2 (ix3 0 wd n)) (fun c => x1 (ix3 0 n c))) (x3 (ix2 0 n)))
          (zOf (fun k => x0 (ix2 r k)) (columnOf (fun wd => x2 (ix3 1 wd n)) (fun c => x1 (ix3 1 n c))) (x3 (ix2 1 n))) := by
  have hr := r.isLt
  unfold hS
  exact hBlk_apply x0 x1 x2 x3 H ⟨r.val / 256 % 4, Nat.mod_lt _ (by decide)⟩ ⟨r.val % 256, Nat.mod_lt _ (by decide)⟩ n r
    (by show r.val = 256 * (r.val / 256 % 4) + r.val % 256; omega)

end Cert.Hand

end
-- ==== Proof.Value.Places.lean ====
/- What the precondition says of a word of places. -/
module

public import proofs.«01_k».proof.Pre_two_of_four
public import proofs.«01_k».proof.Proof.Value.HostReads
public import proofs.«01_k».proof.Proof.Value.KernelValue

@[expose] public section

set_option maxRecDepth 16384

noncomputable section

namespace Cert.Hand

open Idealize.ShloMosaic Idealize.ShloMosaic.TcCoe

theorem place_word_lt : ∀ a b : Fin 4, IntOp.cmpi .slt (BitVec.ofNat 32 a.val) (BitVec.ofNat 32 b.val) = 1#1 → a.val < b.val := by decide

instance pre_facts : Cert.Pre_two_of_four.Facts where
  bcast_S2x5632x64_S2x5632x64x1_0_1_2 := by decide
  bcast_S_S8 := by decide
  bcast_S8_S1x1x1x8_3 := by decide
  bcast_S2x5632x64x1_S2x5632x64x8_0_1_2_3 := by decide
  bcast_S1x1x1x8_S2x5632x64x8_0_1_2_3 := by decide
  bcast_S_S2x5632x64x8 := by decide

/-- A multi-index of four coordinates. -/
def at4 (s : Fin 2) (n : Fin 5632) (wd : Fin 64) (j : Fin 8) : Cert.Pre_two_of_four.S2x5632x64x8.Idx :=
  fun a => match a with
    | ⟨0, _⟩ => s
    | ⟨1, _⟩ => n
    | ⟨2, _⟩ => wd
    | ⟨3, _⟩ => j

theorem fn_at (x : Vec Ideal Cert.Pre_two_of_four.S4x256x2048 .bf16) (v : IVec Cert.Pre_two_of_four.S2x5632x1024 8)
    (i : IVec Cert.Pre_two_of_four.S2x5632x64 32) (sc : Vec Ideal Cert.Pre_two_of_four.S2x5632 .f32)
    (s : Fin 2) (n : Fin 5632) (wd : Fin 64) (j : Fin 8) :
    Cert.Pre_two_of_four.fn (F := Ideal) x v i sc (at4 s n wd j)
      = IntOp.cmpi .slt (IntOp.andi (IntOp.shrsi .host (i (ix3 s n wd)) (IntOp.muli (4#32) (BitVec.ofNat 32 j.val))) 3#32)
          (IntOp.andi (IntOp.shrsi .host (i (ix3 s n wd)) (IntOp.addi (IntOp.muli (4#32) (BitVec.ofNat 32 j.val)) 2#32)) 3#32) := by
  unfold Cert.Pre_two_of_four.fn Cert.Pre_two_of_four.fn_part1 at4
  pointwise

theorem rising_of (x : Vec Ideal Cert.Pre_two_of_four.S4x256x2048 .bf16) (v : IVec Cert.Pre_two_of_four.S2x5632x1024 8)
    (i : IVec Cert.Pre_two_of_four.S2x5632x64 32) (sc : Vec Ideal Cert.Pre_two_of_four.S2x5632 .f32)
    (h : Cert.Pre_two_of_four.fn (F := Ideal) x v i sc = fun _ => 1#1) (s : Fin 2) (n : Fin 5632) (wd : Fin 64) :
    Rising (i (ix3 s n wd)) := fun j => by
  have e := fn_at x v i sc s n wd j
  rw [congrFun h, times_four_add j, times_four j, shifted _ _ (by omega), shifted _ _ (by omega)] at e
  exact place_word_lt ⟨placeAt (i (ix3 s n wd)) (4 * j.val), place_lt _ _⟩ ⟨placeAt (i (ix3 s n wd)) (4 * j.val + 2), place_lt _ _⟩ e.symm

end Cert.Hand

end
-- ==== Proof.Ideal.Reads.lean ====
/- What the buffers hold after the body, as functions of the argument blocks. -/
module

public import proofs.«01_k».proof.Proof.Ideal.BlockValues

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

section
variable (c : Dev nD) (i : grid0.Coords) (arg1 : Memref sig .tc .vmem S1024x2048 .bf16) (harg1 : arg1.IsWhole) (arg2 : Memref sig .tc .vmem S2x256x1024 .i8) (harg2 : arg2.IsWhole) (arg3 : Memref sig .tc .vmem S2x64x256 .i32) (harg3 : arg3.IsWhole) (arg4 : Memref sig .tc .vmem S2x256 .f32) (harg4 : arg4.IsWhole) (arg5 : Memref sig .tc .vmem S1024x256 .bf16) (harg5 : arg5.IsWhole) (arg6 : Memref sig .tc .vmem S1024x2048 .fp8e4m3) (harg6 : arg6.IsWhole) (arg7 : Memref sig .tc .vmem S4x1x256 .f32) (harg7 : arg7.IsWhole) (arg8 : Memref sig .tc .vmem S1024x5632 .fp8e4m3) (harg8 : arg8.IsWhole) (arg9 : Memref sig .tc .vmem S4x1x256 .f32) (harg9 : arg9.IsWhole) (arg10 : Memref sig .tc .vmem S1024x2048 .fp8e4m3) (harg10 : arg10.IsWhole) (arg11 : Memref sig .tc .vmem S1024x128 .f32) (harg11 : arg11.IsWhole) (arg12 : Memref sig .tc .vmem S2112x512 .f32) (harg12 : arg12.IsWhole) (arg13 : Memref sig .tc .vmem S2x512x256 .i32) (harg13 : arg13.IsWhole) (arg14 : Memref sig .tc .vmem S272x128 .i32) (harg14 : arg14.IsWhole) (arg15 : Memref sig .tc .vmem S64x128 .i32) (harg15 : arg15.IsWhole) (arg16 : Memref sig .tc .vmem S22x1024x256 .f32) (harg16 : arg16.IsWhole) (arg17 : Memref sig .tc .vmem S1024x128 .f32) (harg17 : arg17.IsWhole)
    (x0 : Vec F S1024x2048 .bf16) (x1 : Vec F S2x256x1024 .i8) (x2 : Vec F S2x64x256 .i32) (x3 : Vec F S2x256 .f32) (xs0 : Vec F S1024x2048 .fp8e4m3) (xs1 : Vec F S1024x128 .f32) (xs7 : Vec F S1024x128 .f32) (xs6 : Vec F S22x1024x256 .f32) (x5 : Vec F S1024x2048 .fp8e4m3) (x6 : Vec F S4x1x256 .f32)

theorem readA4 (hc0 : cond0_0 i) (hc1 : ¬cond0_1 i) (f) :
    arg5.view.read (Elt F) (arg5.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1)
      = hS (xpS x0) (xsbS x0) x1 x2 x3 := by
  rw [listA]
  funext y
  exact View.read_writes_apply_of_pieces _ _ (hS (xpS x0) (xsbS x0) x1 x2 x3) _ (hList_eq (xpS x0) (xsbS x0) x1 x2 x3) y (hList_cover (xpS x0) (xsbS x0) x1 x2 x3 y)

theorem readB4 (hc0 : ¬cond0_0 i) (hc1 : ¬cond0_1 i) (f) :
    arg5.view.read (Elt F) (arg5.view.writes (Elt F) f
      (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7 xs6 x5 x6).1)
      = hS xs0 xs1 x1 x2 x3 := by
  rw [listB]
  funext y
  exact View.read_writes_apply_of_pieces _ _ (hS xs0 xs1 x1 x2 x3) _ (hList_eq xs0 xs1 x1 x2 x3) y (hList_cover xs0 xs1 x1 x2 x3 y)

theorem readC4 (hc0 : ¬cond0_0 i) (hc1 : cond0_1 i) (f) :
    arg5.view.read (Elt F) (arg5.view.writes (Elt F) f
      (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs7 xs6 x5 x6).1)
      = hS xs0 xs1 x1 x2 x3 := by
  rw [listC]
  funext y
  exact View.read_writes_apply_of_pieces _ _ (hS xs0 xs1 x1 x2 x3) _ (hList_eq xs0 xs1 x1 x2 x3) y (hList_cover xs0 xs1 x1 x2 x3 y)

theorem readA5 (hc0 : cond0_0 i) (hc1 : ¬cond0_1 i) (f) :
    arg6.view.read (Elt F) (arg6.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1)
      = xcS x0 := by
  rw [topA5]
  funext y
  exact View.read_writes_apply_of_pieces _ _ (xcS x0) _ (xcPieces_eq arg1 harg1 x0) y (xcPieces_cover arg1 harg1 x0 y)

theorem readA6 (hc0 : cond0_0 i) (hc1 : ¬cond0_1 i) (f) :
    arg7.view.read (Elt F) (arg7.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1)
      = xsS x0 := by
  rw [topA6]
  funext y
  exact View.read_writes_apply_of_pieces _ _ (xsS x0) _ (xsPieces_eq arg1 harg1 x0) y (xsPieces_cover arg1 harg1 x0 y)

theorem readA0 (hc0 : cond0_0 i) (hc1 : ¬cond0_1 i) (f) :
    arg10.view.read (Elt F) (arg10.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1)
      = xpS x0 := by
  rw [topA0]
  funext y
  exact View.read_writes_apply_of_pieces _ _ (xpS x0) _ (xpPieces_eq arg1 harg1 arg6 arg12 x0) y (xpPieces_cover arg1 harg1 arg6 arg12 x0 y)

theorem readA1 (hc0 : cond0_0 i) (hc1 : ¬cond0_1 i) (f) :
    arg11.view.read (Elt F) (arg11.view.writes (Elt F) f
      (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1)
      = xsbS x0 := by
  rw [topA1]
  funext y
  exact View.read_writes_apply_of_pieces _ _ (xsbS x0) _ (xsbPieces_eq arg1 harg1 x0) y (xsbPieces_cover arg1 harg1 x0 y)

end

end Cert.KernelIdeal.Hand

end
-- ==== Proof.Ideal.Frame.lean ====
/- The run of the kernel: what it leaves in its first three results, and that it changes no argument. -/
module

public import proofs.«01_k».proof.Proof.Ideal.Reads
public import Idealize.ShloMosaic.Lib.Claim
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def t00 : Fin cfg0.N := ⟨0, by rw [show cfg0.N = 22 from N_0]; decide⟩

/-- The input the rows are quantised from. -/
def xB (c : Dev nD) : Vec F S1024x2048 .bf16 := iblk m c 0 t00

/-- The result's block at a point. -/
def hB (c : Dev nD) (t : Fin cfg0.N) : Vec F S1024x256 .bf16 :=
  hS (xpS (xB m c)) (xsbS (xB m c)) (iblk m c 1 t) (iblk m c 2 t) (iblk m c 3 t)

/-- The region invariant: before the first point every scratch at anything; afterwards the reordered codes and the scales
    along the rows at what the first point left. -/
def PhiS (c : Dev nD) : (n : ℕ) → n ≤ cfg0.N → sProp 𝕄
  | 0, _ => Pipeline.ΦA spec0 c
  | n + 1, hn => iprop(iprop(owns (c : Thread nD τ) scM0_0 fullShare (xpS (xB m c)) ∗ owns (c : Thread nD τ) scM0_1 fullShare (xsbS (xB m c)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xpS (xB m c)) ∗ owns (c : Thread nD τ) scM0_1 fullShare (xsbS (xB m c)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (xpS (xB m c)) ∗ owns (c : Thread nD τ) scM0_1 fullShare (xsbS (xB m c)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-- The output windows nothing is stated of (7, 8). -/
def forgets0 : Fin 9 → Bool := fun w => w.val == 7 || w.val == 8

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hB m c t
    | ⟨5, _⟩ => xcS (xB m c)
    | ⟨6, _⟩ => xsS (xB m c)
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = hB m c t := by dsimp only [dats]
theorem after0_5 (c : Dev nD) (t : Fin cfg0.N) : (dats m 0 c).after 5 t = xcS (xB m c) := by dsimp only [dats]
theorem after0_6 (c : Dev nD) (t : Fin cfg0.N) : (dats m 0 c).after 6 t = xsS (xB m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- Where windows 5 and 6 are idle: everywhere but at the first point. -/
theorem idle0_5 (t : Fin cfg0.N) : cfg0.idle 5 (grid0.coords t) = !(k0_cond1 (grid0.coords t) == 1#1) := rfl
theorem idle0_6 (t : Fin cfg0.N) : cfg0.idle 6 (grid0.coords t) = !(k0_cond1 (grid0.coords t) == 1#1) := rfl

theorem cond_true (t : Fin cfg0.N) (h : t.val = 0) : (!(k0_cond1 (grid0.coords t) == 1#1)) = false := by
  rw [show k0_cond1 (grid0.coords t) = 1#1 from (hcond0_0 t).mpr (by omega)]; rfl

theorem cond_false (t : Fin cfg0.N) (h : t.val ≠ 0) : (!(k0_cond1 (grid0.coords t) == 1#1)) = true := by
  have hN : t.val < 22 := lt_of_lt_of_eq t.isLt (show cfg0.N = 22 from N_0)
  rw [Bool.not_eq_true', beq_eq_false_iff_ne]
  exact fun e => by have := (hcond0_0 t).mp e; omega

theorem fresh0_5 : ∀ n, n + 1 < 22 → cfg0.fresh 5 (n + 1) = false
  | n, hn => by
    have hN : cfg0.N = 22 := N_0
    have hG : cfg0.grid.N = 22 := N_0
    rw [Pipeline.Cfg.fresh_succ cfg0 5 n (by omega),
      show (cfg0.win 5).flush ⟨n, by omega⟩ = false from
        Bool.eq_false_iff.mpr fun h => by have := (flush0_5 ⟨n, by omega⟩).mp h; dsimp only at this; omega,
      Bool.false_or,
      show cfg0.idle 5 (cfg0.grid.coords ⟨n, by omega⟩) = _ from idle0_5 ⟨n, by omega⟩]
    cases n with
    | zero => rw [cond_true _ rfl, Bool.false_and]
    | succ n => rw [fresh0_5 n (by omega), Bool.and_false]

theorem fresh0_6 : ∀ n, n + 1 < 22 → cfg0.fresh 6 (n + 1) = false
  | n, hn => by
    have hN : cfg0.N = 22 := N_0
    have hG : cfg0.grid.N = 22 := N_0
    rw [Pipeline.Cfg.fresh_succ cfg0 6 n (by omega),
      show (cfg0.win 6).flush ⟨n, by omega⟩ = false from
        Bool.eq_false_iff.mpr fun h => by have := (flush0_6 ⟨n, by omega⟩).mp h; dsimp only at this; omega,
      Bool.false_or,
      show cfg0.idle 6 (cfg0.grid.coords ⟨n, by omega⟩) = _ from idle0_6 ⟨n, by omega⟩]
    cases n with
    | zero => rw [cond_true _ rfl, Bool.false_and]
    | succ n => rw [fresh0_6 n (by omega), Bool.and_false]

theorem before0_5 (c : Dev nD) (t : Fin cfg0.N) (ht : t.val ≠ 0) (d) : (dats m 0 c).before 5 t d = xcS (xB m c) := by
  have hN : t.val < 22 := lt_of_lt_of_eq t.isLt (show cfg0.N = 22 from N_0)
  obtain ⟨n, hn⟩ : ∃ n, t.val = n + 1 := ⟨t.val - 1, by omega⟩
  have hf : cfg0.fresh 5 t.val = false := by rw [hn]; exact fresh0_5 n (by omega)
  rw [(dats m 0 c).before_out_traj 5 rfl (fun _ _ => rfl) (fun t _ _ _ => by rw [after0_5, after0_5]) t.val t rfl d,
    if_neg (by rw [hf]; exact Bool.false_ne_true), after0_5]
theorem before0_6 (c : Dev nD) (t : Fin cfg0.N) (ht : t.val ≠ 0) (d) : (dats m 0 c).before 6 t d = xsS (xB m c) := by
  have hN : t.val < 22 := lt_of_lt_of_eq t.isLt (show cfg0.N = 22 from N_0)
  obtain ⟨n, hn⟩ : ∃ n, t.val = n + 1 := ⟨t.val - 1, by omega⟩
  have hf : cfg0.fresh 6 t.val = false := by rw [hn]; exact fresh0_6 n (by omega)
  rw [(dats m 0 c).before_out_traj 6 rfl (fun _ _ => rfl) (fun t _ _ _ => by rw [after0_6, after0_6]) t.val t rfl d,
    if_neg (by rw [hf]; exact Bool.false_ne_true), after0_6]

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (hB m c t) := by
  unfold Dat.leavesExact; rw [show cfg0.idle 4 (grid0.coords t) = false from rfl, after0_4]

theorem leaves0_5_A (c : Dev nD) (t : Fin cfg0.N) (h : t.val = 0) : (dats m 0 c).leavesExact 5 t = owns (c : Thread nD τ) (ms0_5 t) fullShare (xcS (xB m c)) := by
  unfold Dat.leavesExact
  rw [show cfg0.idle 5 (cfg0.grid.coords t) = false from (idle0_5 t).trans (cond_true t h), after0_5]

theorem leaves0_5_C (c : Dev nD) (t : Fin cfg0.N) (h : t.val % 22 = 21) : (dats m 0 c).leavesExact 5 t = owns (c : Thread nD τ) (ms0_5 t) fullShare (xcS (xB m c)) := by
  unfold Dat.leavesExact
  rw [show cfg0.idle 5 (cfg0.grid.coords t) = true from (idle0_5 t).trans (cond_false t (by omega)), (flush0_5 t).mpr h, after0_5]

theorem leaves0_5_B (c : Dev nD) (t : Fin cfg0.N) (h0 : ¬t.val % 22 = 0) (h1 : ¬t.val % 22 = 21) : (dats m 0 c).leavesExact 5 t
    = iprop(∃ d : (cfg0.win 5).block.Idx → Elt F (cfg0.win 5).elt, owns (c : Thread nD τ) (ms0_5 t) fullShare ((dats m 0 c).before 5 t d)) :=
  (dats m 0 c).leavesExact_idle 5 t ((idle0_5 t).trans (cond_false t (by omega))) (Bool.eq_false_iff.mpr fun h => h1 ((flush0_5 t).mp h))

theorem leaves0_6_A (c : Dev nD) (t : Fin cfg0.N) (h : t.val = 0) : (dats m 0 c).leavesExact 6 t = owns (c : Thread nD τ) (ms0_6 t) fullShare (xsS (xB m c)) := by
  unfold Dat.leavesExact
  rw [show cfg0.idle 6 (cfg0.grid.coords t) = false from (idle0_6 t).trans (cond_true t h), after0_6]

theorem leaves0_6_C (c : Dev nD) (t : Fin cfg0.N) (h : t.val % 22 = 21) : (dats m 0 c).leavesExact 6 t = owns (c : Thread nD τ) (ms0_6 t) fullShare (xsS (xB m c)) := by
  unfold Dat.leavesExact
  rw [show cfg0.idle 6 (cfg0.grid.coords t) = true from (idle0_6 t).trans (cond_false t (by omega)), (flush0_6 t).mpr h, after0_6]

theorem leaves0_6_B (c : Dev nD) (t : Fin cfg0.N) (h0 : ¬t.val % 22 = 0) (h1 : ¬t.val % 22 = 21) : (dats m 0 c).leavesExact 6 t
    = iprop(∃ d : (cfg0.win 6).block.Idx → Elt F (cfg0.win 6).elt, owns (c : Thread nD τ) (ms0_6 t) fullShare ((dats m 0 c).before 6 t d)) :=
  (dats m 0 c).leavesExact_idle 6 t ((idle0_6 t).trans (cond_false t (by omega))) (Bool.eq_false_iff.mpr fun h => h1 ((flush0_6 t).mp h))

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 19200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 22 := lt_of_lt_of_eq t.isLt (show cfg0.N = 22 from N_0)
  by_cases h0 : t.val % 22 = 0
  · by_cases h1 : t.val % 22 = 21
    · exfalso; omega
    · rw [show (dats m 0 c).leavesExact 0 t = _ from leaves0_0 m c t, show (dats m 0 c).leavesExact 1 t = _ from leaves0_1 m c t, show (dats m 0 c).leavesExact 2 t = _ from leaves0_2 m c t,
        show (dats m 0 c).leavesExact 3 t = _ from leaves0_3 m c t, show (dats m 0 c).leavesExact 4 t = _ from leaves0_4 m c t]
      rw [show (dats m 0 c).leavesExact 5 t = _ from leaves0_5_A m c t (by omega), show (dats m 0 c).leavesExact 6 t = _ from leaves0_6_A m c t (by omega)]
      have hz : t.val = 0 := by omega
      rw [PhiS_castSucc m c t, PhiS_zero m c _ _ hz, PhiA0_eq]
      have hx : iblk m c 0 t = xB m c := by rw [show t = t00 from Fin.ext hz]; rfl
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, ⟨%e4, H4⟩, ⟨%e5, H5⟩, ⟨%e6, H6⟩, H7, H8, ⟨%es0, HS0⟩, ⟨%es1, HS1⟩, ⟨%fT2, HS2⟩, ⟨%fT3, HS3⟩, ⟨%fT4, HS4⟩, ⟨%fT5, HS5⟩, ⟨%fT6, HS6⟩, ⟨%fT7, HS7⟩⟩
      isplitl [HS0 HS1 HS2 HS3 HS4 HS5 HS6 HS7 Hg]
      · isplitl [HS0 HS1 HS2 HS3 HS4 HS5 HS6 HS7]
        · isplitl [HS0]
          · unfold owns; iexists _; isplitr
            swap; · iexact HS0
            ipureintro; exact (readA0 c (grid0.coords t) _ _ _ _ _ _ _ _ _ _ _ _ _ _ _ _ _ _ _ _ _ _ _ _ _ _ _ _ _ _ _ _ _ _ (iblk m c 0 t) (iblk m c 1 t) (iblk m c 2 t) (iblk m c 3 t) _ _ _).trans (by first | (rw [hx]; done) | (rw [hx]; rfl))
          isplitl [HS1]
          · unfold owns; iexists _; isplitr
            swap; · iexact HS1
            ipureintro; exact (readA1 c (grid0.coords t) _ _ _ _ _ _ _ _ _ _ _ _ _ _ _ _ _ _ _ _ _ _ _ _ _ _ _ _ _ _ _ _ _ _ (iblk m c 0 t) (iblk m c 1 t) (iblk m c 2 t) (iblk m c 3 t) _ _ _).trans (by first | (rw [hx]; done) | (rw [hx]; rfl))
          isplitl [HS2]
          · iexists _; unfold owns; iexists _; isplitr
            swap; · iexact HS2
            ipureintro; rfl
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (readA4 c (grid0.coords t) _ _ _ _ _ _ _ _ _ _ _ _ _ _ _ _ _ _ _ _ _ _ _ _ _ _ _ _ _ _ _ _ _ _ (iblk m c 0 t) (iblk m c 1 t) (iblk m c 2 t) (iblk m c 3 t) _ _ _).trans (by first | (rw [hx]; done) | (rw [hx]; rfl))
      isplitl [H5]
      · unfold owns; iexists _; isplitr
        swap; · iexact H5
        ipureintro; exact (readA5 c (grid0.coords t) _ _ _ _ _ _ _ _ _ _ _ _ _ _ _ _ _ _ _ _ _ _ _ _ _ _ _ _ _ _ _ _ _ _ (iblk m c 0 t) (iblk m c 1 t) (iblk m c 2 t) (iblk m c 3 t) _ _ _).trans (by first | (rw [hx]; done) | (rw [hx]; rfl))
      isplitl [H6]
      · unfold owns; iexists _; isplitr
        swap; · iexact H6
        ipureintro; exact (readA6 c (grid0.coords t) _ _ _ _ _ _ _ _ _ _ _ _ _ _ _ _ _ _ _ _ _ _ _ _ _ _ _ _ _ _ _ _ _ _ (iblk m c 0 t) (iblk m c 1 t) (iblk m c 2 t) (iblk m c 3 t) _ _ _).trans (by first | (rw [hx]; done) | (rw [hx]; rfl))
      isplitl [H7]; · iexact H7
      iexact H8
  · by_cases h1 : t.val % 22 = 21
    · rw [show (dats m 0 c).leavesExact 0 t = _ from leaves0_0 m c t, show (dats m 0 c).leavesExact 1 t = _ from leaves0_1 m c t, show (dats m 0 c).leavesExact 2 t = _ from leaves0_2 m c t,
        show (dats m 0 c).leavesExact 3 t = _ from leaves0_3 m c t, show (dats m 0 c).leavesExact 4 t = _ from leaves0_4 m c t]
      rw [show (dats m 0 c).leavesExact 5 t = _ from leaves0_5_C m c t h1, show (dats m 0 c).leavesExact 6 t = _ from leaves0_6_C m c t h1]
      have hz : t.val ≠ 0 := by omega
      rw [PhiS_castSucc m c t, PhiS_pos m c _ _ hz]
      simp only [before0_5 m c t hz, before0_6 m c t hz]
      iintro ⟨⟨⟨HS0, HS1, HS2, HS3, HS4, HS5, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (xpS (xB m c)) (xsbS (xB m c)) s7 s6 (xcS (xB m c)) (xsS (xB m c))).2.2.2.2.2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, ⟨%e4, H4⟩, H5, H6, ⟨%e7, H7⟩, ⟨%e8, H8⟩, HS0, HS1, HS2, ⟨%fT3, HS3⟩, ⟨%fT4, HS4⟩, ⟨%fT5, HS5⟩, HS6, ⟨%fT7, HS7⟩⟩
      isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexact HS6
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (readC4 c (grid0.coords t) _ _ _ _ _ _ _ _ _ _ _ _ _ _ _ _ _ _ _ _ _ _ _ _ _ _ _ _ _ _ _ _ _ _ (iblk m c 0 t) (iblk m c 1 t) (iblk m c 2 t) (iblk m c 3 t) (xpS (xB m c)) (xsbS (xB m c)) s7 s6 (xcS (xB m c)) (xsS (xB m c)) _ _ _)
      isplitl [H5]; · iexact H5
      isplitl [H6]; · iexact H6
      isplitl [H7]
      · iexists _; unfold owns; iexists _; isplitr
        swap; · iexact H7
        ipureintro; rfl
      iexists _; unfold owns; iexists _; isplitr
      swap; · iexact H8
      ipureintro; rfl
    · rw [show (dats m 0 c).leavesExact 0 t = _ from leaves0_0 m c t, show (dats m 0 c).leavesExact 1 t = _ from leaves0_1 m c t, show (dats m 0 c).leavesExact 2 t = _ from leaves0_2 m c t,
        show (dats m 0 c).leavesExact 3 t = _ from leaves0_3 m c t, show (dats m 0 c).leavesExact 4 t = _ from leaves0_4 m c t]
      rw [show (dats m 0 c).leavesExact 5 t = _ from leaves0_5_B m c t h0 h1, show (dats m 0 c).leavesExact 6 t = _ from leaves0_6_B m c t h0 h1]
      have hz : t.val ≠ 0 := by omega
      rw [PhiS_castSucc m c t, PhiS_pos m c _ _ hz]
      simp only [before0_5 m c t hz, before0_6 m c t hz]
      iintro ⟨⟨⟨HS0, HS1, HS2, HS3, HS4, HS5, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (xpS (xB m c)) (xsbS (xB m c)) s7 s6 (xcS (xB m c)) (xsS (xB m c))).2.2.2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, ⟨%e4, H4⟩, H5, H6, H7, H8, HS0, HS1, HS2, ⟨%fT3, HS3⟩, ⟨%fT4, HS4⟩, ⟨%fT5, HS5⟩, HS6, ⟨%fT7, HS7⟩⟩
      isplitl [HS0 HS1 HS2 HS3 HS4 HS5 HS6 HS7 Hg]
      · isplitl [HS0 HS1 HS2 HS3 HS4 HS5 HS6 HS7]
        · isplitl [HS0]
          · iexact HS0
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (readB4 c (grid0.coords t) _ _ _ _ _ _ _ _ _ _ _ _ _ _ _ _ _ _ _ _ _ _ _ _ _ _ _ _ _ _ _ _ _ _ (iblk m c 0 t) (iblk m c 1 t) (iblk m c 2 t) (iblk m c 3 t) (xpS (xB m c)) (xsbS (xB m c)) s7 s6 (xcS (xB m c)) (xsS (xB m c)) _ _ _)
      isplitl [H5]; · iexists d5; iexact H5
      isplitl [H6]; · iexists d6; iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 22 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.KernelIdeal.Hand

end
-- ==== Proof.Value.KernelArrays.lean ====
/- The kernel's blocks in their arrays, and the three arrays after the run. -/
module

public import proofs.«01_k».proof.Proof.Ideal.Frame
public import proofs.«01_k».proof.Proof.Value.KernelValue
public import proofs.«01_k».proof.Proof.Value.HostReads
public import Idealize.ShloMosaic.Lib.Pipeline.Value
public import Idealize.ShloMosaic.Lib.Pipeline.ValueKit

@[expose] public section

set_option maxRecDepth 16384

noncomputable section

namespace Cert.Hand.Kernel

open Idealize.ShloMosaic Idealize.ShloMosaic.TcCoe
open Cert.KernelIdeal Cert.KernelIdeal.Gen Cert.KernelIdeal.Hand
open Idealize.ShloMosaic.Pipeline (Dat)
open Idealize.SL.Sem

theorem where_in : ∀ t : Fin cfg0.N,
    (win0_0.index t (0 : Fin 2) = 0 ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = t.val)
    ∧ (win0_3.index t (0 : Fin 2) = 0 ∧ win0_3.index t (1 : Fin 2) = t.val) :=
  (by decide +kernel : ∀ t : Fin grid0.N, _)

theorem where_out : ∀ t : Fin cfg0.N,
    (win0_4.index t (0 : Fin 2) = 0 ∧ win0_4.index t (1 : Fin 2) = t.val)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0) :=
  (by decide +kernel : ∀ t : Fin grid0.N, _)

theorem t_lt (t : Fin cfg0.N) : t.val < 22 := lt_of_lt_of_eq t.isLt (show cfg0.N = 22 from N_0)

theorem emb0 (t : Fin cfg0.N) (r : Fin 1024) (k : Fin 2048) : ((cfg0.win 0).blk t).view.emb (ix2 r k) = ix2 r k := by
  obtain ⟨⟨e0, e1⟩, _⟩ := where_in t
  refine funext (Fin.forall_fin_two.mpr ⟨Fin.ext ?_, Fin.ext ?_⟩)
  · show win0_0.index t (0 : Fin 2) * 1024 + 1 * r.val = r.val; omega
  · show win0_0.index t (1 : Fin 2) * 2048 + 1 * k.val = k.val; omega

theorem emb1 (t : Fin cfg0.N) (s : Fin 2) (n : Fin 256) (b : Fin 1024) (q : Fin 5632) (hq : q.val = 256 * t.val + n.val) :
    ((cfg0.win 1).blk t).view.emb (ix3 s n b) = ix3 s q b := by
  obtain ⟨_, ⟨e0, e1, e2⟩, _⟩ := where_in t
  funext a; apply Fin.ext
  match a with
  | ⟨0, _⟩ => show win0_1.index t (0 : Fin 3) * 2 + 1 * s.val = s.val; omega
  | ⟨1, _⟩ => show win0_1.index t (1 : Fin 3) * 256 + 1 * n.val = q.val; omega
  | ⟨2, _⟩ => show win0_1.index t (2 : Fin 3) * 1024 + 1 * b.val = b.val; omega

theorem emb2 (t : Fin cfg0.N) (s : Fin 2) (wd : Fin 64) (n : Fin 256) (q : Fin 5632) (hq : q.val = 256 * t.val + n.val) :
    ((cfg0.win 2).blk t).view.emb (ix3 s wd n) = ix3 s wd q := by
  obtain ⟨_, _, ⟨e0, e1, e2⟩, _⟩ := where_in t
  funext a; apply Fin.ext
  match a with
  | ⟨0, _⟩ => show win0_2.index t (0 : Fin 3) * 2 + 1 * s.val = s.val; omega
  | ⟨1, _⟩ => show win0_2.index t (1 : Fin 3) * 64 + 1 * wd.val = wd.val; omega
  | ⟨2, _⟩ => show win0_2.index t (2 : Fin 3) * 256 + 1 * n.val = q.val; omega

theorem emb3 (t : Fin cfg0.N) (s : Fin 2) (n : Fin 256) (q : Fin 5632) (hq : q.val = 256 * t.val + n.val) :
    ((cfg0.win 3).blk t).view.emb (ix2 s n) = ix2 s q := by
  obtain ⟨_, _, _, ⟨e0, e1⟩⟩ := where_in t
  refine funext (Fin.forall_fin_two.mpr ⟨Fin.ext ?_, Fin.ext ?_⟩)
  · show win0_3.index t (0 : Fin 2) * 2 + 1 * s.val = s.val; omega
  · show win0_3.index t (1 : Fin 2) * 256 + 1 * n.val = q.val; omega

theorem emb4 (t : Fin cfg0.N) (r : Fin 1024) (n : Fin 256) (q : Fin 5632) (hq : q.val = 256 * t.val + n.val) :
    ((cfg0.win 4).blk t).view.emb (ix2 r n) = ix2 r q := by
  obtain ⟨⟨e0, e1⟩, _⟩ := where_out t
  refine funext (Fin.forall_fin_two.mpr ⟨Fin.ext ?_, Fin.ext ?_⟩)
  · show win0_4.index t (0 : Fin 2) * 1024 + 1 * r.val = r.val; omega
  · show win0_4.index t (1 : Fin 2) * 256 + 1 * n.val = q.val; omega

theorem emb5 (t : Fin cfg0.N) (r : Fin 1024) (k : Fin 2048) : ((cfg0.win 5).blk t).view.emb (ix2 r k) = ix2 r k := by
  obtain ⟨_, ⟨e0, e1⟩, _⟩ := where_out t
  refine funext (Fin.forall_fin_two.mpr ⟨Fin.ext ?_, Fin.ext ?_⟩)
  · show win0_5.index t (0 : Fin 2) * 1024 + 1 * r.val = r.val; omega
  · show win0_5.index t (1 : Fin 2) * 2048 + 1 * k.val = k.val; omega

theorem emb6 (t : Fin cfg0.N) (y : S4x1x256.Idx) : ((cfg0.win 6).blk t).view.emb y = y := by
  obtain ⟨_, _, ⟨e0, e1, e2⟩⟩ := where_out t
  funext a; apply Fin.ext
  match a with
  | ⟨0, _⟩ => show win0_6.index t (0 : Fin 3) * 4 + 1 * (y 0).val = (y 0).val; omega
  | ⟨1, _⟩ => show win0_6.index t (1 : Fin 3) * 1 + 1 * (y 1).val = (y 1).val; omega
  | ⟨2, _⟩ => show win0_6.index t (2 : Fin 3) * 256 + 1 * (y 2).val = (y 2).val; omega

variable (m : (ℓ : Loc nD τ sig) → Buf (Elt Ideal) ℓ) (ρ : Dev nD → PrngReg)

/-- The rows. -/
theorem xB_apply (c : Dev nD) (r : Fin 1024) (k : Fin 2048) :
    xB m c (ix2 r k) = m ((c : Thread nD τ).loc main_arg0) (ix3 ⟨r.val / 256, by omega⟩ ⟨r.val % 256, by omega⟩ k) := by
  refine Eq.trans ?_ (kernel_x m c r k)
  show V m c main_v0 (((cfg0.win 0).blk t00).view.emb (ix2 r k)) = _
  rw [emb0]

theorem block1 (c : Dev nD) (t : Fin cfg0.N) (s : Fin 2) (n : Fin 256) (b : Fin 1024) (q : Fin 5632) (hq : q.val = 256 * t.val + n.val) :
    (iblk m c 1 t : Vec Ideal S2x256x1024 .i8) (ix3 s n b) = m ((c : Thread nD τ).loc main_arg1) (ix3 s q b) := by
  refine Eq.trans ?_ (congrFun (V_main_arg1 m c) _)
  show V m c main_arg1 (((cfg0.win 1).blk t).view.emb (ix3 s n b)) = _
  rw [emb1 t s n b q hq]

theorem block2 (c : Dev nD) (t : Fin cfg0.N) (s : Fin 2) (wd : Fin 64) (n : Fin 256) (q : Fin 5632) (hq : q.val = 256 * t.val + n.val) :
    (iblk m c 2 t : Vec Ideal S2x64x256 .i32) (ix3 s wd n) = m ((c : Thread nD τ).loc main_arg2) (ix3 s q wd) := by
  refine Eq.trans ?_ (kernel_i m c s wd q)
  show V m c main_v1 (((cfg0.win 2).blk t).view.emb (ix3 s wd n)) = _
  rw [emb2 t s wd n q hq]

theorem block3 (c : Dev nD) (t : Fin cfg0.N) (s : Fin 2) (n : Fin 256) (q : Fin 5632) (hq : q.val = 256 * t.val + n.val) :
    (iblk m c 3 t : Vec Ideal S2x256 .f32) (ix2 s n) = m ((c : Thread nD τ).loc main_arg3) (ix2 s q) := by
  refine Eq.trans ?_ (congrFun (V_main_arg3 m c) _)
  show V m c main_arg3 (((cfg0.win 3).blk t).view.emb (ix2 s n)) = _
  rw [emb3 t s n q hq]

/-- A row of the first argument. -/
def rowOf (x : Vec Ideal S4x256x2048 .bf16) (r : Fin 1024) : Fin 2048 → EReal :=
  fun k => x (ix3 ⟨r.val / 256, by omega⟩ ⟨r.val % 256, by omega⟩ k)

theorem row_eq (c : Dev nD) (r : Fin 1024) : (fun k => xB m c (ix2 r k)) = rowOf (m ((c : Thread nD τ).loc main_arg0)) r :=
  funext fun k => xB_apply m c r k

/-- One entry of the result, from the arguments. -/
def entryOf (x : Vec Ideal S4x256x2048 .bf16) (v : Vec Ideal S2x5632x1024 .i8) (i : Vec Ideal S2x5632x64 .i32) (s : Vec Ideal S2x5632 .f32)
    (r : Fin 1024) (q : Fin 5632) : EReal :=
  hOf (zOf (rowOf x r) (columnOf (fun wd => i (ix3 0 q wd)) (fun b => v (ix3 0 q b))) (s (ix2 0 q)))
    (zOf (rowOf x r) (columnOf (fun wd => i (ix3 1 q wd)) (fun b => v (ix3 1 q b))) (s (ix2 1 q)))

theorem hB_apply (c : Dev nD) (H : ∀ s q wd, Rising (m ((c : Thread nD τ).loc main_arg2) (ix3 s q wd))) (t : Fin cfg0.N)
    (r : Fin 1024) (n : Fin 256) (q : Fin 5632) (hq : q.val = 256 * t.val + n.val) :
    hB m c t (ix2 r n) = entryOf (m ((c : Thread nD τ).loc main_arg0)) (m ((c : Thread nD τ).loc main_arg1))
      (m ((c : Thread nD τ).loc main_arg2)) (m ((c : Thread nD τ).loc main_arg3)) r q := by
  have ht := t_lt t
  have H' : ∀ s wd (n : Fin 256), Rising ((iblk m c 2 t : Vec Ideal S2x64x256 .i32) (ix3 s wd n)) := fun s wd n => by
    rw [block2 m c t s wd n ⟨256 * t.val + n.val, by omega⟩ rfl]; exact H _ _ _
  unfold hB
  refine (hS_apply (xB m c) (iblk m c 1 t) (iblk m c 2 t) (iblk m c 3 t) H' r n).trans ?_
  have z : ∀ s : Fin 2, zOf (fun k => xB m c (ix2 r k)) (columnOf (fun wd => (iblk m c 2 t : Vec Ideal S2x64x256 .i32) (ix3 s wd n))
        (fun b => (iblk m c 1 t : Vec Ideal S2x256x1024 .i8) (ix3 s n b))) ((iblk m c 3 t : Vec Ideal S2x256 .f32) (ix2 s n))
      = zOf (rowOf (m ((c : Thread nD τ).loc main_arg0)) r) (columnOf (fun wd => m ((c : Thread nD τ).loc main_arg2) (ix3 s q wd))
        (fun b => m ((c : Thread nD τ).loc main_arg1) (ix3 s q b))) (m ((c : Thread nD τ).loc main_arg3) (ix2 s q)) := fun s => by
    rw [row_eq, block3 m c t s n q hq, show (fun wd => (iblk m c 2 t : Vec Ideal S2x64x256 .i32) (ix3 s wd n)) = fun wd => m ((c : Thread nD τ).loc main_arg2) (ix3 s q wd) from
      funext fun wd => block2 m c t s wd n q hq, show (fun b => (iblk m c 1 t : Vec Ideal S2x256x1024 .i8) (ix3 s n b)) = fun b => m ((c : Thread nD τ).loc main_arg1) (ix3 s q b) from
      funext fun b => block1 m c t s n b q hq]
  exact congrArg₂ hOf (z 0) (z 1)

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    rw [← (where_out t).1.2, ← (where_out t').1.2]; exact congrFun h (1 : Fin 2)))

/-- The first result. -/
theorem array4 (c : Dev nD) (H : ∀ s q wd, Rising (m ((c : Thread nD τ).loc main_arg2) (ix3 s q wd))) (r : Fin 1024) (q : Fin 5632) :
    (dats m 0 c).arrAt 4 cfg0.N (ix2 r q) = entryOf (m ((c : Thread nD τ).loc main_arg0)) (m ((c : Thread nD τ).loc main_arg1))
      (m ((c : Thread nD τ).loc main_arg2)) (m ((c : Thread nD τ).loc main_arg3)) r q := by
  have hq := q.isLt
  have hN : cfg0.N = 22 := N_0
  let t : Fin cfg0.N := ⟨q.val / 256, by omega⟩
  let n : Fin 256 := ⟨q.val % 256, by omega⟩
  have e : q.val = 256 * t.val + n.val := by show q.val = 256 * (q.val / 256) + q.val % 256; omega
  refine Eq.trans ?_ (hB_apply m c H t r n q e)
  have h := congrFun ((dats m 0 c).read_blk_arrAt_eq_flushed 4 disjoint4 cfg0.N t t.isLt (flush0_4 t)) (ix2 r n)
  rw [show (dats m 0 c).flushed 4 t = (cfg0.win 4).cut (grid0.coords t) (hB m c t) from by
    show (cfg0.win 4).cut (grid0.coords t) ((dats m 0 c).after 4 t) = _; rw [after0_4]] at h
  rw [← emb4 t r n q e]
  exact h

theorem last (t t' : Fin cfg0.N) (h : t.val % 22 = 21) (h' : t'.val % 22 = 21) : t = t' :=
  Fin.ext (by have := t_lt t; have := t_lt t'; omega)

/-- The last point. -/
def t21 : Fin cfg0.N := ⟨21, by rw [show cfg0.N = 22 from N_0]; decide⟩

theorem flush5_last : (cfg0.win 5).flush t21 = true := (flush0_5 t21).mpr (show 21 % 22 = 21 by decide)
theorem flush6_last : (cfg0.win 6).flush t21 = true := (flush0_6 t21).mpr (show 21 % 22 = 21 by decide)

theorem flushed5 (c : Dev nD) (t : Fin cfg0.N) : (dats m 0 c).flushed 5 t = (cfg0.win 5).cut (grid0.coords t) (xcS (xB m c)) := by
  show (cfg0.win 5).cut (grid0.coords t) ((dats m 0 c).after 5 t) = _
  rw [after0_5]

/-- The second result. -/
theorem array5 (c : Dev nD) (r : Fin 1024) (k : Fin 2048) :
    (dats m 0 c).arrAt 5 cfg0.N (ix2 r k) = codeOf (rowOf (m ((c : Thread nD τ).loc main_arg0)) r) k := by
  rw [← row_eq]
  refine Eq.trans ?_ (xcS_apply (xB m c) r k)
  have h := congrFun ((dats m 0 c).read_blk_arrAt_eq_flushed 5
    (fun t t' hf hf' hne => absurd (last t t' ((flush0_5 t).mp hf) ((flush0_5 t').mp hf')) hne) cfg0.N t21 t21.isLt (flush5_last)) (ix2 r k)
  rw [flushed5 m c t21] at h
  exact (congrArg ((dats m 0 c).arrAt 5 cfg0.N) (emb5 t21 r k).symm).trans h

theorem flushed6 (c : Dev nD) (t : Fin cfg0.N) : (dats m 0 c).flushed 6 t = (cfg0.win 6).cut (grid0.coords t) (xsS (xB m c)) := by
  show (cfg0.win 6).cut (grid0.coords t) ((dats m 0 c).after 6 t) = _
  rw [after0_6]

/-- The third result. -/
theorem array6 (c : Dev nD) (y : S4x1x256.Idx) (r : Fin 1024) (hr : r.val = 256 * (y 0).val + (y 2).val) :
    (dats m 0 c).arrAt 6 cfg0.N y = scaleOf (rowOf (m ((c : Thread nD τ).loc main_arg0)) r) := by
  rw [← row_eq]
  refine Eq.trans ?_ (xsS_apply (xB m c) y r hr)
  have h := congrFun ((dats m 0 c).read_blk_arrAt_eq_flushed 6
    (fun t t' hf hf' hne => absurd (last t t' ((flush0_6 t).mp hf) ((flush0_6 t').mp hf')) hne) cfg0.N t21 t21.isLt (flush6_last)) y
  rw [flushed6 m c t21] at h
  exact (congrArg ((dats m 0 c).arrAt 6 cfg0.N) (emb6 t21 y).symm).trans h

/-- The run, its three results named, the arguments unchanged. -/
theorem run_named : θ_run defs (onTc (τ := τ) (main (F := Ideal))) ⟨m, fun _ => 0, ρ⟩ fun r => (∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c =>
    ⟨((dats m 0 c).toRForget_arrAt_iff (fgt := forgets0) (w := 4) rfl _ _).mp ((h.1 c).1 4),
     ((dats m 0 c).toRForget_arrAt_iff (fgt := forgets0) (w := 5) rfl _ _).mp ((h.1 c).1 5),
     ((dats m 0 c).toRForget_arrAt_iff (fgt := forgets0) (w := 6) rfl _ _).mp ((h.1 c).1 6),
     ((h.1 c).2 main_arg0 (Pipeline.mem_restRefs_of main_arg0 (by decide) (by decide))).trans (V_main_arg0 m c),
     (((dats m 0 c).toRForget_arrAt_iff (fgt := forgets0) (w := 1) rfl _ _).mp ((h.1 c).1 1)).trans
       (((dats m 0 c).arrAt_in 1 rfl _).trans ((A_eq m c 1).trans (V_main_arg1 m c))),
     ((h.1 c).2 main_arg2 (Pipeline.mem_restRefs_of main_arg2 (by decide) (by decide))).trans (V_main_arg2 m c),
     (((dats m 0 c).toRForget_arrAt_iff (fgt := forgets0) (w := 3) rfl _ _).mp ((h.1 c).1 3)).trans
       (((dats m 0 c).arrAt_in 3 rfl _).trans ((A_eq m c 3).trans (V_main_arg3 m c)))⟩, h.2⟩)
    (run_main_quiescent m ρ)

end Cert.Hand.Kernel

end
-- ==== Proof.Value.ReferenceRow.lean ====
/- The reference's codes and scales, in numbers. -/
module

public import proofs.«01_k».proof.Proof.Value.Numbers
public import proofs.«01_k».proof.Proof.Gen.ReferenceIdeal.Value
public import Idealize.ShloMosaic.Lib.Pointwise

@[expose] public section

set_option maxRecDepth 16384

noncomputable section

namespace Cert.Hand.Reference

open Idealize.ShloMosaic Idealize.ShloMosaic.TcCoe
open Cert.ReferenceIdeal Cert.ReferenceIdeal.Gen
open scoped BigOperators

theorem ofBool_eq_one (p : Prop) [Decidable p] : (BitVec.ofBool (decide p) = 1#1) ↔ p := by
  by_cases h : p <;> simp [h]

theorem cmp_oeq (x y : EReal) : Ideal.cmp .oeq x y = 1#1 ↔ x = y := by
  unfold Ideal.cmp
  exact ofBool_eq_one _

theorem cmp_oge (x y : EReal) : Ideal.cmp .oge x y = 1#1 ↔ y ≤ x := by
  unfold Ideal.cmp
  exact ofBool_eq_one _

theorem r_pay2 (P : Vec Ideal S1024x2048 .bf16) (i : S1024x2048.Idx) : k0_pay2 P i = P i := by
  unfold k0_pay2
  exact shapeCast_apply _ _ i i rfl

/-- The rows' greatest magnitudes. -/
def maxV (P : Vec Ideal S1024x2048 .bf16) : FVec Ideal S1024 .f32 :=
  multiReduction (F := Ideal) .maximumf [1] S1024 (absf (k0_pay2 P)) 0xFF800000#32 reduces_S1024x2048_S1024 (.inl rfl) rfl

/-- … scaled. -/
def scaledV (P : Vec Ideal S1024x2048 .bf16) : FVec Ideal S1024 .f32 :=
  mulf (maxV P) (broadcast S1024 (Scalar.ofBits (F := Ideal) .f32 0x3B124925#32))

/-- The powers that count. -/
def lanesV (Y : FVec Ideal S1024 .f32) : FVec Ideal S1024x246 .f32 :=
  select (cmpf .oge (broadcastTo S1024x246 (shapeCast S1024x1 Y shapeCasts_S1024_S1024x1) broadcasts_S1024x1_S1024x246)
      (exp2 (sitofp .f32 (subi (iota .tc S1024x246 32 [1] iota_S1024x246_d1_w32) (broadcast S1024x246 126#32)))))
    (broadcast S1024x246 (Scalar.ofBits (F := Ideal) .f32 0x3F800000#32)) (broadcast S1024x246 (Scalar.ofBits (F := Ideal) .f32 0x00000000#32))

/-- Their number. -/
def countV (Y : FVec Ideal S1024 .f32) : FVec Ideal S1024 .f32 :=
  multiReduction (F := Ideal) .add [1] S1024 (lanesV Y) 0x00000000#32 reduces_S1024x246_S1024 (.inl rfl) rfl

theorem r_pay3_eq (P : Vec Ideal S1024x2048 .bf16) : k0_pay3 (F := Ideal) P =
    select (cmpf .oeq (maxV P) (broadcast S1024 (Scalar.ofBits (F := Ideal) .f32 0x00000000#32)))
      (broadcast S1024 (Scalar.ofBits (F := Ideal) .f32 0x00000000#32))
      (subf (countV (scaledV P)) (broadcast S1024 (Scalar.ofBits (F := Ideal) .f32 0x42FC0000#32))) := rfl

theorem r_max (P : Vec Ideal S1024x2048 .bf16) (i : Fin 1024) : maxV P (ix1 i) = rowMax fun k => P (ix2 i k) := by
  refine (Ideal.multiReduction_maximumf_single _ _ _ _ _ _).trans ?_
  unfold rowMax
  refine congrArg (fun f => (Finset.univ : Finset (Fin 2048)).fold max (Ideal.ofBits .f32 0xFF800000#32) f) (funext fun k => ?_)
  have e : reduces_S1024x2048_S1024.lift (ix1 i) k = ix2 i k := funext (Fin.forall_fin_two.mpr ⟨Fin.ext rfl, Fin.ext rfl⟩)
  show max ((k0_pay2 P) (reduces_S1024x2048_S1024.lift (ix1 i) k)) (-((k0_pay2 P) (reduces_S1024x2048_S1024.lift (ix1 i) k))) = _
  rw [e]
  have e5 := r_pay2 P (ix2 i (k : Fin 2048))
  exact congrArg₂ max e5 (congrArg Neg.neg e5)

theorem word_toInt : ∀ k : Fin 246, (BitVec.ofNat 32 k.val - 126#32).toInt = (k.val : ℤ) - 126 := by decide +kernel

theorem select_lane (Y E : FVec Ideal S1024x246 .f32) (j : S1024x246.Idx) :
    select (cmpf .oge Y E) (broadcast S1024x246 (Scalar.ofBits (F := Ideal) .f32 0x3F800000#32)) (broadcast S1024x246 (Scalar.ofBits (F := Ideal) .f32 0x00000000#32)) j
    = if Ideal.cmp .oge (Y j) (E j) = 1#1 then Ideal.ofBits .f32 0x3F800000#32 else Ideal.ofBits .f32 0x00000000#32 := rfl

theorem r_count (Y : FVec Ideal S1024 .f32) (i : Fin 1024) : countV Y (ix1 i) = ((count (Y (ix1 i)) : ℕ) : EReal) := by
  refine (Ideal.multiReduction_add_single _ _ _ _ _ _).trans ?_
  rw [← sum_count]
  refine Finset.sum_congr rfl fun k _ => ?_
  have e : reduces_S1024x246_S1024.lift (ix1 i) k = ix2 i k := funext (Fin.forall_fin_two.mpr ⟨Fin.ext rfl, Fin.ext rfl⟩)
  rw [e]
  have eY : broadcastTo S1024x246 (shapeCast S1024x1 Y shapeCasts_S1024_S1024x1) broadcasts_S1024x1_S1024x246 (ix2 i (k : Fin 246)) = Y (ix1 i) := by
    refine (broadcastTo_apply (s := S1024x1) _ _ (ix2 i (k : Fin 246)) (ix2 i 0) (Fin.forall_fin_two.mpr ⟨rfl, rfl⟩)).trans ?_
    exact shapeCast_apply _ _ (ix2 i 0) (ix1 i) (by rw [Shape.rowMajor_val_one, Shape.rowMajor_val_two]; show i.val = i.val * 1 + 0; omega)
  have eI : iota .tc S1024x246 32 [1] iota_S1024x246_d1_w32 (ix2 i (k : Fin 246)) = BitVec.ofNat 32 (k : Fin 246).val := by
    pointwise
  have eE : (exp2 (sitofp (F := Ideal) .f32 (subi (iota .tc S1024x246 32 [1] iota_S1024x246_d1_w32) (broadcast S1024x246 126#32)))) (ix2 i (k : Fin 246))
      = pow2 (((k : Fin 246).val : ℤ) - 126) := by
    show Ideal.exp2 ((((iota .tc S1024x246 32 [1] iota_S1024x246_d1_w32 (ix2 i (k : Fin 246))) - 126#32).toInt : ℝ) : EReal) = _
    rw [eI]
    exact (congrArg (fun z : ℤ => Ideal.exp2 ((z : ℝ) : EReal)) (word_toInt k)).trans (exp2_int _)
  unfold lanesV
  refine (select_lane _ _ _).trans ?_
  rw [Ideal.ofBits_one_f32, Ideal.ofBits_zero_f32]
  refine if_congr ?_ rfl rfl
  rw [cmp_oge]
  exact (congrArg₂ (fun a b : EReal => a ≤ b) eE eY) ▸ Iff.rfl

theorem select_exponent (M C : FVec Ideal S1024 .f32) (j : S1024.Idx) :
    select (cmpf .oeq M (broadcast S1024 (Scalar.ofBits (F := Ideal) .f32 0x00000000#32)))
      (broadcast S1024 (Scalar.ofBits (F := Ideal) .f32 0x00000000#32))
      (subf C (broadcast S1024 (Scalar.ofBits (F := Ideal) .f32 0x42FC0000#32))) j
    = if Ideal.cmp .oeq (M j) (Ideal.ofBits .f32 0x00000000#32) = 1#1 then Ideal.ofBits .f32 0x00000000#32 else C j - Ideal.ofBits .f32 0x42FC0000#32 := rfl

/-- A row's exponent. -/
theorem r_pay3 (P : Vec Ideal S1024x2048 .bf16) (i : Fin 1024) :
    k0_pay3 (F := Ideal) P (ix1 i) = (((expo (scaled fun k => P (ix2 i k)) : ℤ) : ℝ) : EReal) := by
  have hy : scaledV P (ix1 i) = scaled fun k => P (ix2 i k) := by
    show maxV P (ix1 i) * Ideal.ofBits .f32 0x3B124925#32 = _
    rw [r_max]
    rfl
  rw [r_pay3_eq]
  refine (select_exponent _ _ _).trans ?_
  rw [r_count, hy, r_max, Ideal.ofBits_zero_f32, ofBits_126, ← expo_ref]
  exact if_congr (cmp_oeq _ _) rfl rfl

theorem codes_of (X : FVec Ideal S1024x2048 .f32) (E : FVec Ideal S1024 .f32) (i : Fin 1024) (k : Fin 2048) :
    (truncf .fp8e4m3 (minimumf (broadcast S1024x2048 (Scalar.ofBits (F := Ideal) .f32 0x43E00000#32))
      (maximumf (broadcast S1024x2048 (Scalar.ofBits (F := Ideal) .f32 0xC3E00000#32))
        (mulf X (broadcastTo S1024x2048 (shapeCast S1024x1 (exp2 (subf (broadcast S1024 (Scalar.ofBits (F := Ideal) .f32 0x00000000#32)) E)) shapeCasts_S1024_S1024x1) broadcasts_S1024x1_S1024x2048)))) bitsLt_fp8e4m3_f32) (ix2 i k)
    = min (Ideal.ofBits .f32 0x43E00000#32) (max (Ideal.ofBits .f32 0xC3E00000#32) (X (ix2 i k) * Ideal.exp2 (Ideal.ofBits .f32 0x00000000#32 - E (ix1 i)))) := by
  have e : broadcastTo S1024x2048 (shapeCast S1024x1 (exp2 (subf (broadcast S1024 (Scalar.ofBits (F := Ideal) .f32 0x00000000#32)) E)) shapeCasts_S1024_S1024x1) broadcasts_S1024x1_S1024x2048 (ix2 i k)
      = Ideal.exp2 (Ideal.ofBits .f32 0x00000000#32 - E (ix1 i)) := by
    refine (broadcastTo_apply (s := S1024x1) _ _ (ix2 i k) (ix2 i 0) (Fin.forall_fin_two.mpr ⟨rfl, rfl⟩)).trans ?_
    exact shapeCast_apply _ _ (ix2 i 0) (ix1 i) (by rw [Shape.rowMajor_val_one, Shape.rowMajor_val_two]; show i.val = i.val * 1 + 0; omega)
  rw [← e]
  rfl

theorem r_pay4_eq (P : Vec Ideal S1024x2048 .bf16) : k0_pay4 (F := Ideal) P =
    truncf .fp8e4m3 (minimumf (broadcast S1024x2048 (Scalar.ofBits (F := Ideal) .f32 0x43E00000#32))
      (maximumf (broadcast S1024x2048 (Scalar.ofBits (F := Ideal) .f32 0xC3E00000#32))
        (mulf (k0_pay2 P) (broadcastTo S1024x2048 (shapeCast S1024x1 (exp2 (subf (broadcast S1024 (Scalar.ofBits (F := Ideal) .f32 0x00000000#32)) (k0_pay3 P))) shapeCasts_S1024_S1024x1) broadcasts_S1024x1_S1024x2048)))) bitsLt_fp8e4m3_f32 := rfl

/-- The codes. -/
theorem r_pay4 (P : Vec Ideal S1024x2048 .bf16) (i : Fin 1024) (k : Fin 2048) :
    k0_pay4 (F := Ideal) P (ix2 i k)
      = min (Ideal.ofBits .f32 0x43E00000#32) (max (Ideal.ofBits .f32 0xC3E00000#32) (P (ix2 i k) * pow2 (-expo (scaled fun k => P (ix2 i k))))) := by
  have e : Ideal.exp2 (Ideal.ofBits .f32 0x00000000#32 - k0_pay3 (F := Ideal) P (ix1 i)) = pow2 (-expo (scaled fun k => P (ix2 i k))) := by
    rw [r_pay3, Ideal.ofBits_zero_f32, ← exp2_int, zero_sub]
    push_cast; rfl
  rw [r_pay4_eq, codes_of, e, r_pay2]

theorem exp2_at (E : FVec Ideal S1024 .f32) (j : S1024.Idx) : (exp2 E) j = Ideal.exp2 (E j) := rfl

theorem r_pay5_eq (P : Vec Ideal S1024x2048 .bf16) : k0_pay5 (F := Ideal) P = exp2 (k0_pay3 P) := rfl

/-- The scale. -/
theorem r_pay5 (P : Vec Ideal S1024x2048 .bf16) (i : Fin 1024) :
    k0_pay5 (F := Ideal) P (ix1 i) = pow2 (expo (scaled fun k => P (ix2 i k))) := by
  rw [r_pay5_eq, exp2_at, r_pay3, exp2_int]

end Cert.Hand.Reference

end
-- ==== Proof.Value.ReferenceDot.lean ====
/- The reference's products, in numbers. -/
module

public import proofs.«01_k».proof.Proof.Value.ReferenceRow
public import proofs.«01_k».proof.Proof.Value.Spec

@[expose] public section

set_option maxRecDepth 16384

noncomputable section

namespace Cert.Hand.Reference

open Idealize.ShloMosaic Idealize.ShloMosaic.TcCoe
open Cert.ReferenceIdeal Cert.ReferenceIdeal.Gen
open Idealize.ShloMosaic.Pipeline (Dat)
open scoped BigOperators

theorem dot_apply (A : FVec Ideal S1024x2048 .fp8e4m3) (B : FVec Ideal S5632x2048 .fp8e4m3) (i : Fin 1024) (n : Fin 5632) :
    matmul (F := Ideal) dot_S1024x2048_S5632x2048_S1024x5632_1_1_0_0_n_n none A B (constant S1024x5632 .f32 0x00000000#32) (ix2 i n)
      = ∑ k : Fin 2048, A (ix2 i k) * B (ix2 n k) := by
  simp only [matmul]
  refine (Ideal.matmul_constant_zero_apply _ none _ _ _).trans ?_
  refine (Equiv.sum_comp (Idealize.ShloMosaic.ValueIdx.contrEquiv1 dot_S1024x2048_S5632x2048_S1024x5632_1_1_0_0_n_n 2048 rfl rfl).symm _).symm.trans ?_
  refine Finset.sum_congr rfl fun kk _ => ?_
  have e1 : dot_S1024x2048_S5632x2048_S1024x5632_1_1_0_0_n_n.lhsIdx (ix2 i n) ((Idealize.ShloMosaic.ValueIdx.contrEquiv1 dot_S1024x2048_S5632x2048_S1024x5632_1_1_0_0_n_n 2048 rfl rfl).symm kk) = ix2 i kk :=
    funext (Fin.forall_fin_two.mpr ⟨Fin.ext rfl, Fin.ext rfl⟩)
  have e2 : dot_S1024x2048_S5632x2048_S1024x5632_1_1_0_0_n_n.rhsIdx (ix2 i n) ((Idealize.ShloMosaic.ValueIdx.contrEquiv1 dot_S1024x2048_S5632x2048_S1024x5632_1_1_0_0_n_n 2048 rfl rfl).symm kk) = ix2 n kk :=
    funext (Fin.forall_fin_two.mpr ⟨Fin.ext rfl, Fin.ext rfl⟩)
  rw [e1, e2]

/-- One product with its two scales. -/
def zR (A : FVec Ideal S1024x2048 .fp8e4m3) (SC : FVec Ideal S1024 .f32) (W : Vec Ideal S1x5632x2048 .i8) (S : Vec Ideal S1x5632 .f32) : FVec Ideal S1024x5632 .f32 :=
  mulf (mulf (matmul (F := Ideal) dot_S1024x2048_S5632x2048_S1024x5632_1_1_0_0_n_n none A (bitcastToFloat .fp8e4m3 (shapeCast S5632x2048 W shapeCasts_S1x5632x2048_S5632x2048)) (constant S1024x5632 .f32 0x00000000#32))
    (broadcastTo S1024x5632 (shapeCast S1024x1 SC shapeCasts_S1024_S1024x1) broadcasts_S1024x1_S1024x5632)) (broadcastTo S1024x5632 S broadcasts_S1x5632_S1024x5632)

theorem numbers_apply (x : IVec S5632x2048 8) (j : S5632x2048.Idx) :
    (bitcastToFloat .fp8e4m3 x : FVec Ideal S5632x2048 .fp8e4m3) j = Ideal.ofBits .fp8e4m3 (x j) := rfl

theorem zR_apply (A : FVec Ideal S1024x2048 .fp8e4m3) (SC : FVec Ideal S1024 .f32) (W : Vec Ideal S1x5632x2048 .i8) (S : Vec Ideal S1x5632 .f32)
    (r : Fin 1024) (n : Fin 5632) :
    zR A SC W S (ix2 r n) = ((∑ k : Fin 2048, A (ix2 r k) * Ideal.ofBits .fp8e4m3 (W (ix3 0 n k))) * SC (ix1 r)) * S (ix2 0 n) := by
  unfold zR
  have e1 : matmul (F := Ideal) dot_S1024x2048_S5632x2048_S1024x5632_1_1_0_0_n_n none A (bitcastToFloat .fp8e4m3 (shapeCast S5632x2048 W shapeCasts_S1x5632x2048_S5632x2048)) (constant S1024x5632 .f32 0x00000000#32) (ix2 r n)
      = ∑ k : Fin 2048, A (ix2 r k) * Ideal.ofBits .fp8e4m3 (W (ix3 0 n k)) := by
    refine (dot_apply _ _ _ _).trans ?_
    refine Finset.sum_congr rfl fun k _ => ?_
    rw [numbers_apply, shapeCast_apply (s := S1x5632x2048) W _ (ix2 n k) (ix3 0 n k)
      (by rw [Shape.rowMajor_val_three, Shape.rowMajor_val_two]; show (0 * 5632 + n.val) * 2048 + k.val = n.val * 2048 + k.val; omega)]
  have e2 : broadcastTo S1024x5632 (shapeCast S1024x1 SC shapeCasts_S1024_S1024x1) broadcasts_S1024x1_S1024x5632 (ix2 r n) = SC (ix1 r) :=
    (broadcastTo_apply (s := S1024x1) _ _ (ix2 r n) (ix2 r 0) (Fin.forall_fin_two.mpr ⟨rfl, rfl⟩)).trans
      (shapeCast_apply (s := S1024) _ _ (ix2 r 0) (ix1 r) (by rw [Shape.rowMajor_val_one, Shape.rowMajor_val_two]; show r.val = r.val * 1 + 0; omega))
  have e3 : broadcastTo S1024x5632 S broadcasts_S1x5632_S1024x5632 (ix2 r n) = S (ix2 0 n) :=
    broadcastTo_apply (s := S1x5632) _ _ (ix2 r n) (ix2 0 n) (Fin.forall_fin_two.mpr ⟨rfl, rfl⟩)
  rw [← e1, ← e2, ← e3]
  rfl

theorem pay1_at (A : FVec Ideal S1024x2048 .fp8e4m3) (SC : FVec Ideal S1024 .f32) (W0 W1 : Vec Ideal S1x5632x2048 .i8) (S0 S1 : Vec Ideal S1x5632 .f32) (j : S1024x5632.Idx) :
    k0_pay1 A SC W0 S0 W1 S1 j = hOf (zR A SC W0 S0 j) (zR A SC W1 S1 j) := rfl

end Cert.Hand.Reference

end
-- ==== Proof.Value.ReferenceGeometry.lean ====
/- The reference's blocks in their arrays. -/
module

public import proofs.«01_k».proof.Proof.Value.HostReads

@[expose] public section

set_option maxRecDepth 16384

noncomputable section

namespace Cert.Hand.Reference

open Idealize.ShloMosaic Idealize.ShloMosaic.TcCoe
open Cert.ReferenceIdeal Cert.ReferenceIdeal.Gen
open Idealize.ShloMosaic.Pipeline (Dat)
open scoped BigOperators

/-- The one point of the grid. -/
abbrev t0 : Fin cfg0.N := ⟨0, by decide⟩

theorem where_at : ∀ t : Fin cfg0.N,
    (win0_0.index t (0 : Fin 2) = 0 ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0) :=
  (by decide +kernel : ∀ t : Fin grid0.N, _)

theorem emb0 (t : Fin cfg0.N) (y : S1024x2048.Idx) : ((cfg0.win 0).blk t).view.emb y = y := by
  obtain ⟨⟨e0, e1⟩, _⟩ := where_at t
  funext a; apply Fin.ext
  match a with
  | ⟨0, _⟩ => show win0_0.index t (0 : Fin 2) * 1024 + 1 * (y 0).val = (y 0).val; omega
  | ⟨1, _⟩ => show win0_0.index t (1 : Fin 2) * 2048 + 1 * (y 1).val = (y 1).val; omega

theorem emb1 (t : Fin cfg0.N) (y : S2x5632x2048.Idx) : ((cfg0.win 1).blk t).view.emb y = y := by
  obtain ⟨_, ⟨e0, e1, e2⟩, _⟩ := where_at t
  funext a; apply Fin.ext
  match a with
  | ⟨0, _⟩ => show win0_1.index t (0 : Fin 3) * 2 + 1 * (y 0).val = (y 0).val; omega
  | ⟨1, _⟩ => show win0_1.index t (1 : Fin 3) * 5632 + 1 * (y 1).val = (y 1).val; omega
  | ⟨2, _⟩ => show win0_1.index t (2 : Fin 3) * 2048 + 1 * (y 2).val = (y 2).val; omega

theorem emb2 (t : Fin cfg0.N) (y : S2x5632.Idx) : ((cfg0.win 2).blk t).view.emb y = y := by
  obtain ⟨_, _, ⟨e0, e1⟩, _⟩ := where_at t
  funext a; apply Fin.ext
  match a with
  | ⟨0, _⟩ => show win0_2.index t (0 : Fin 2) * 2 + 1 * (y 0).val = (y 0).val; omega
  | ⟨1, _⟩ => show win0_2.index t (1 : Fin 2) * 5632 + 1 * (y 1).val = (y 1).val; omega

theorem emb3 (t : Fin cfg0.N) (y : S1024x5632.Idx) : ((cfg0.win 3).blk t).view.emb y = y := by
  obtain ⟨_, _, _, ⟨e0, e1⟩, _⟩ := where_at t
  funext a; apply Fin.ext
  match a with
  | ⟨0, _⟩ => show win0_3.index t (0 : Fin 2) * 1024 + 1 * (y 0).val = (y 0).val; omega
  | ⟨1, _⟩ => show win0_3.index t (1 : Fin 2) * 5632 + 1 * (y 1).val = (y 1).val; omega

theorem emb4 (t : Fin cfg0.N) (y : S1024x2048.Idx) : ((cfg0.win 4).blk t).view.emb y = y := by
  obtain ⟨_, _, _, _, ⟨e0, e1⟩, _⟩ := where_at t
  funext a; apply Fin.ext
  match a with
  | ⟨0, _⟩ => show win0_4.index t (0 : Fin 2) * 1024 + 1 * (y 0).val = (y 0).val; omega
  | ⟨1, _⟩ => show win0_4.index t (1 : Fin 2) * 2048 + 1 * (y 1).val = (y 1).val; omega

theorem emb5 (t : Fin cfg0.N) (y : S4x1x256.Idx) : ((cfg0.win 5).blk t).view.emb y = y := by
  obtain ⟨_, _, _, _, _, ⟨e0, e1, e2⟩⟩ := where_at t
  funext a; apply Fin.ext
  match a with
  | ⟨0, _⟩ => show win0_5.index t (0 : Fin 3) * 4 + 1 * (y 0).val = (y 0).val; omega
  | ⟨1, _⟩ => show win0_5.index t (1 : Fin 3) * 1 + 1 * (y 1).val = (y 1).val; omega
  | ⟨2, _⟩ => show win0_5.index t (2 : Fin 3) * 256 + 1 * (y 2).val = (y 2).val; omega

end Cert.Hand.Reference

end
-- ==== Proof.Value.ReferenceReads.lean ====
/- The reference's operands, in numbers. -/
module

public import proofs.«01_k».proof.Proof.Value.ReferenceDot
public import proofs.«01_k».proof.Proof.Value.ReferenceGeometry
public import proofs.«01_k».proof.Proof.Value.HostReads

@[expose] public section

set_option maxRecDepth 16384

noncomputable section

namespace Cert.Hand.Reference

open Idealize.ShloMosaic Idealize.ShloMosaic.TcCoe
open Cert.ReferenceIdeal Cert.ReferenceIdeal.Gen
open Idealize.ShloMosaic.Pipeline (Dat)
open scoped BigOperators

variable (m : (ℓ : Loc nD τ sig) → Buf (Elt Ideal) ℓ)

/-- A row of the first argument. -/
def rowOf (x : Vec Ideal S4x256x2048 .bf16) (r : Fin 1024) : Fin 2048 → EReal :=
  fun k => x (ix3 ⟨r.val / 256, by omega⟩ ⟨r.val % 256, by omega⟩ k)

theorem row_eq (c : Dev nD) (r : Fin 1024) :
    (fun k => View.ld (iblk m c 0 t0 : Vec Ideal S1024x2048 .bf16) r0_0 (ix2 r k)) = rowOf (m ((c : Thread nD τ).loc main_arg0)) r := by
  funext k
  refine Eq.trans ?_ (reference_x m c r k)
  show V m c main_v42 (((cfg0.win 0).blk t0).view.emb (r0_0.emb (ix2 r k))) = _
  rw [emb0]
  exact congrArg _ (funext (Fin.forall_fin_two.mpr ⟨Fin.ext (by show 0 + 1 * r.val = r.val; omega), Fin.ext (by show 0 + 1 * k.val = k.val; omega)⟩))

theorem read1 (c : Dev nD) (W : (b : Ref sig .tc) → Buf (Elt Ideal) ((c : Thread nD τ).loc b)) (t : Fin cfg0.N) (y : S2x5632x2048.Idx) :
    (((cfg0.win 1).blk t).view.read (Elt Ideal) (W (Pipeline.arrRef spec0 1)) : Vec Ideal S2x5632x2048 .i8) y = W main_v41 y :=
  congrArg (W main_v41) (emb1 t y)

theorem block1 (c : Dev nD) (y : S2x5632x2048.Idx) : (iblk m c 1 t0 : Vec Ideal S2x5632x2048 .i8) y = V m c main_v41 y := by
  unfold iblk
  exact read1 c (V m c) t0 y

theorem weights_eq (c : Dev nD) (s : Fin 2) (n : Fin 5632) (k : Fin 2048) (y : S2x5632x2048.Idx)
    (h0 : (y 0).val = s.val) (h1 : (y 1).val = n.val) (h2 : (y 2).val = k.val) :
    (iblk m c 1 t0 : Vec Ideal S2x5632x2048 .i8) y = columnOf (fun wd => m ((c : Thread nD τ).loc main_arg2) (ix3 s n wd))
      (fun b => m ((c : Thread nD τ).loc main_arg1) (ix3 s n b)) k := by
  have e : y = ix3 s n k := by
    funext a; apply Fin.ext
    match a with
    | ⟨0, _⟩ => exact h0
    | ⟨1, _⟩ => exact h1
    | ⟨2, _⟩ => exact h2
  rw [e]
  exact (block1 m c (ix3 s n k)).trans (reference_w m c s n k)

theorem scales_eq (c : Dev nD) (s : Fin 2) (n : Fin 5632) (y : S2x5632.Idx) (h0 : (y 0).val = s.val) (h1 : (y 1).val = n.val) :
    (iblk m c 2 t0 : Vec Ideal S2x5632 .f32) y = m ((c : Thread nD τ).loc main_arg3) (ix2 s n) := by
  refine Eq.trans ?_ (congrFun (V_main_arg3 m c) _)
  show V m c main_arg3 (((cfg0.win 2).blk t0).view.emb y) = _
  rw [emb2]
  exact congrArg _ (funext (Fin.forall_fin_two.mpr ⟨Fin.ext h0, Fin.ext h1⟩))

theorem z_eq (P : Vec Ideal S1024x2048 .bf16) (f : Fin 2048 → EReal) (r : Fin 1024) (hf : (fun k => P (ix2 r k)) = f)
    (W : Vec Ideal S1x5632x2048 .i8) (S : Vec Ideal S1x5632 .f32) (n : Fin 5632) (w : Fin 2048 → BitVec 8) (hw : ∀ k, W (ix3 0 n k) = w k)
    (s : EReal) (hs : S (ix2 0 n) = s) :
    zR (k0_pay4 P) (k0_pay5 P) W S (ix2 r n) = zOf f w s := by
  refine (zR_apply _ _ _ _ _ _).trans ?_
  subst hf hs
  have e : ∀ k, k0_pay4 P (ix2 r k) = codeOf (fun k => P (ix2 r k)) k := fun k => r_pay4 P r k
  have e' : k0_pay5 P (ix1 r) = scaleOf (fun k => P (ix2 r k)) := r_pay5 P r
  unfold zOf
  rw [e']
  refine congrArg₂ (· * ·) (congrArg₂ (· * ·) (Finset.sum_congr rfl fun k _ => ?_) rfl) rfl
  rw [e, hw]

end Cert.Hand.Reference

end
-- ==== Proof.Value.ReferenceEntry.lean ====
/- An entry of the reference's first result, in numbers. -/
module

public import proofs.«01_k».proof.Proof.Value.ReferenceReads
public import proofs.«01_k».proof.Proof.Value.HostReads

@[expose] public section

set_option maxRecDepth 16384

noncomputable section

namespace Cert.Hand.Reference

open Idealize.ShloMosaic Idealize.ShloMosaic.TcCoe
open Cert.ReferenceIdeal Cert.ReferenceIdeal.Gen
open Idealize.ShloMosaic.Pipeline (Dat)
open scoped BigOperators

variable (m : (ℓ : Loc nD τ sig) → Buf (Elt Ideal) ℓ)

/-- One entry of the result, from the arguments. -/
def entryOf (x : Vec Ideal S4x256x2048 .bf16) (v : Vec Ideal S2x5632x1024 .i8) (i : Vec Ideal S2x5632x64 .i32) (s : Vec Ideal S2x5632 .f32)
    (r : Fin 1024) (q : Fin 5632) : EReal :=
  hOf (zOf (rowOf x r) (columnOf (fun wd => i (ix3 0 q wd)) (fun b => v (ix3 0 q b))) (s (ix2 0 q)))
    (zOf (rowOf x r) (columnOf (fun wd => i (ix3 1 q wd)) (fun b => v (ix3 1 q b))) (s (ix2 1 q)))

theorem z0 (c : Dev nD) (r : Fin 1024) (q : Fin 5632) :
    zR (k0_pay4 (View.ld (iblk m c 0 t0 : Vec Ideal S1024x2048 .bf16) r0_0)) (k0_pay5 (View.ld (iblk m c 0 t0 : Vec Ideal S1024x2048 .bf16) r0_0))
        (View.ld (iblk m c 1 t0 : Vec Ideal S2x5632x2048 .i8) r0_2) (View.ld (iblk m c 2 t0 : Vec Ideal S2x5632 .f32) r0_3) (ix2 r q)
      = zOf (rowOf (m ((c : Thread nD τ).loc main_arg0)) r) (columnOf (fun wd => m ((c : Thread nD τ).loc main_arg2) (ix3 0 q wd))
          (fun b => m ((c : Thread nD τ).loc main_arg1) (ix3 0 q b))) (m ((c : Thread nD τ).loc main_arg3) (ix2 0 q)) :=
  z_eq _ _ r (row_eq m c r) _ _ q _
    (fun k => weights_eq m c 0 q k (r0_2.emb (ix3 0 q k)) (by show 0 + 1 * 0 = 0; omega) (by show 0 + 1 * q.val = q.val; omega) (by show 0 + 1 * k.val = k.val; omega)) _
    (scales_eq m c 0 q (r0_3.emb (ix2 0 q)) (by show 0 + 1 * 0 = 0; omega) (by show 0 + 1 * q.val = q.val; omega))

theorem z1 (c : Dev nD) (r : Fin 1024) (q : Fin 5632) :
    zR (k0_pay4 (View.ld (iblk m c 0 t0 : Vec Ideal S1024x2048 .bf16) r0_0)) (k0_pay5 (View.ld (iblk m c 0 t0 : Vec Ideal S1024x2048 .bf16) r0_0))
        (View.ld (iblk m c 1 t0 : Vec Ideal S2x5632x2048 .i8) r0_4) (View.ld (iblk m c 2 t0 : Vec Ideal S2x5632 .f32) r0_5) (ix2 r q)
      = zOf (rowOf (m ((c : Thread nD τ).loc main_arg0)) r) (columnOf (fun wd => m ((c : Thread nD τ).loc main_arg2) (ix3 1 q wd))
          (fun b => m ((c : Thread nD τ).loc main_arg1) (ix3 1 q b))) (m ((c : Thread nD τ).loc main_arg3) (ix2 1 q)) :=
  z_eq _ _ r (row_eq m c r) _ _ q _
    (fun k => weights_eq m c 1 q k (r0_4.emb (ix3 0 q k)) (by show 1 + 1 * 0 = 1; omega) (by show 0 + 1 * q.val = q.val; omega) (by show 0 + 1 * k.val = k.val; omega)) _
    (scales_eq m c 1 q (r0_5.emb (ix2 0 q)) (by show 1 + 1 * 0 = 1; omega) (by show 0 + 1 * q.val = q.val; omega))

end Cert.Hand.Reference

end
-- ==== Proof.Value.ReferenceValue.lean ====
/- The reference's three results, in numbers. -/
module

public import proofs.«01_k».proof.Proof.Value.ReferenceEntry
public import proofs.«01_k».proof.Proof.Value.HostReads

@[expose] public section

set_option maxRecDepth 16384

noncomputable section

namespace Cert.Hand.Reference

open Idealize.ShloMosaic Idealize.ShloMosaic.TcCoe
open Cert.ReferenceIdeal Cert.ReferenceIdeal.Gen
open Idealize.ShloMosaic.Pipeline (Dat)
open scoped BigOperators

variable (m : (ℓ : Loc nD τ sig) → Buf (Elt Ideal) ℓ)

/-- A block written whole by one store. -/
theorem whole3 (w : Vec Ideal S1024x5632 .bf16) (y : S1024x5632.Idx) : View.canon [⟨r0_6, w⟩] y = w y := by
  have e : r0_6.emb y = y := by
    funext a; apply Fin.ext
    match a with
    | ⟨0, _⟩ => show 0 + 1 * (y 0).val = (y 0).val; omega
    | ⟨1, _⟩ => show 0 + 1 * (y 1).val = (y 1).val; omega
  have h := View.canon_cons_emb r0_6 w [] y
  rw [e] at h
  exact h

theorem whole4 (w : Vec Ideal S1024x2048 .fp8e4m3) (y : S1024x2048.Idx) : View.canon [⟨r0_0, w⟩] y = w y := by
  have e : r0_0.emb y = y := by
    funext a; apply Fin.ext
    match a with
    | ⟨0, _⟩ => show 0 + 1 * (y 0).val = (y 0).val; omega
    | ⟨1, _⟩ => show 0 + 1 * (y 1).val = (y 1).val; omega
  have h := View.canon_cons_emb r0_0 w [] y
  rw [e] at h
  exact h

theorem flush3 : (cfg0.win 3).flush t0 = true := flush0_3 t0
theorem flush4 : (cfg0.win 4).flush t0 = true := flush0_4 t0
theorem flush5 : (cfg0.win 5).flush t0 = true := flush0_5 t0

/-- The first result. -/
theorem array3 (c : Dev nD) (r : Fin 1024) (q : Fin 5632) :
    (dats m 0 c).arrAt 3 cfg0.N (ix2 r q) = entryOf (m ((c : Thread nD τ).loc main_arg0)) (m ((c : Thread nD τ).loc main_arg1))
      (m ((c : Thread nD τ).loc main_arg2)) (m ((c : Thread nD τ).loc main_arg3)) r q := by
  have h := congrFun (Cert.ReferenceIdeal.Value.blocks3 m c t0 flush3) (ix2 r q)
  rw [Cert.ReferenceIdeal.Value.flushed3] at h
  have e : (dats m 0 c).arrAt 3 cfg0.N (ix2 r q) = out0_3 (iblk m c 0 t0) (iblk m c 1 t0) (iblk m c 2 t0) (ix2 r q) :=
    (congrArg ((dats m 0 c).arrAt 3 cfg0.N) (emb3 t0 (ix2 r q)).symm).trans h
  refine e.trans ?_
  unfold out0_3
  refine (whole3 _ _).trans ((pay1_at _ _ _ _ _ _ _).trans ?_)
  exact congrArg₂ hOf (z0 m c r q) (z1 m c r q)

/-- The second result. -/
theorem array4 (c : Dev nD) (r : Fin 1024) (k : Fin 2048) :
    (dats m 0 c).arrAt 4 cfg0.N (ix2 r k) = codeOf (rowOf (m ((c : Thread nD τ).loc main_arg0)) r) k := by
  have h := congrFun (Cert.ReferenceIdeal.Value.blocks4 m c t0 flush4) (ix2 r k)
  rw [Cert.ReferenceIdeal.Value.flushed4] at h
  have e : (dats m 0 c).arrAt 4 cfg0.N (ix2 r k) = out0_4 (iblk m c 0 t0) (iblk m c 1 t0) (iblk m c 2 t0) (ix2 r k) :=
    (congrArg ((dats m 0 c).arrAt 4 cfg0.N) (emb4 t0 (ix2 r k)).symm).trans h
  refine e.trans ?_
  unfold out0_4
  refine (whole4 _ _).trans ?_
  rw [← row_eq]
  exact r_pay4 _ r k

theorem exp2_apply (v : FVec Ideal S1024 .f32) (j : S1024.Idx) : (exp2 v) j = FloatOps.exp2 (v j) := rfl

theorem scale_at (P : Vec Ideal S1024x2048 .bf16) (i : S1024.Idx) (r : Fin 1024) (h : i = ix1 r) :
    FloatOps.exp2 (k0_pay3 P i) = scaleOf (fun k => P (ix2 r k)) := by
  subst h
  exact (exp2_apply _ _).symm.trans ((congrFun (r_pay5_eq P) (ix1 r)).symm.trans (r_pay5 P r))

/-- The third result. -/
theorem array5 (c : Dev nD) (y : S4x1x256.Idx) (r : Fin 1024) (hr : r.val = 256 * (y 0).val + (y 2).val) :
    (dats m 0 c).arrAt 5 cfg0.N y = scaleOf (rowOf (m ((c : Thread nD τ).loc main_arg0)) r) := by
  have h := congrFun (Cert.ReferenceIdeal.Value.blocks5 m c t0 flush5) y
  rw [Cert.ReferenceIdeal.Value.flushed5] at h
  have e : (dats m 0 c).arrAt 5 cfg0.N y = out0_5 (iblk m c 0 t0) (iblk m c 1 t0) (iblk m c 2 t0) y :=
    (congrArg ((dats m 0 c).arrAt 5 cfg0.N) (emb5 t0 y).symm).trans h
  have ei : Cert.ReferenceIdeal.Value.ix5_0 y = ix1 r := funext fun a => Fin.ext (by
    match a with
    | ⟨0, _⟩ => show (y 0).val * 256 + (y 2).val = r.val; omega)
  refine e.trans ?_
  unfold out0_5
  rw [← row_eq]
  exact (Cert.ReferenceIdeal.Value.canon5_eq _ y).trans (scale_at _ _ r ei)

end Cert.Hand.Reference

end
-- ==== Proof.Value.Equal.lean ====
/- The kernel's results are the reference's. -/
module

public import proofs.«01_k».proof.Proof.Value.KernelArrays
public import proofs.«01_k».proof.Proof.Value.ReferenceValue

@[expose] public section

set_option maxRecDepth 16384

noncomputable section

namespace Cert.Hand

open Idealize.ShloMosaic Idealize.ShloMosaic.TcCoe

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem entry_congr {x x' : Vec Ideal KernelIdeal.S4x256x2048 .bf16} {v v' : Vec Ideal KernelIdeal.S2x5632x1024 .i8}
    {i i' : Vec Ideal KernelIdeal.S2x5632x64 .i32} {s s' : Vec Ideal KernelIdeal.S2x5632 .f32}
    (hx : x' = x) (hv : v' = v) (hi : i' = i) (hs : s' = s) (r : Fin 1024) (q : Fin 5632) :
    Reference.entryOf x' v' i' s' r q = Kernel.entryOf x v i s r q := by
  subst hx hv hi hs; rfl

theorem row_congr {x x' : Vec Ideal KernelIdeal.S4x256x2048 .bf16} (hx : x' = x) (r : Fin 1024) :
    Reference.rowOf x' r = Kernel.rowOf x r := by
  subst hx; rfl

theorem first_eq (c : Dev KernelIdeal.nD)
    (H : ∀ s q wd, Rising (m ((c : Thread KernelIdeal.nD KernelIdeal.τ).loc KernelIdeal.main_arg2) (ix3 s q wd)))
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (j : KernelIdeal.S1024x5632.Idx) :
    (ReferenceIdeal.Gen.dats m' 0 c).arrAt 3 ReferenceIdeal.cfg0.N j = (KernelIdeal.Hand.dats m 0 c).arrAt 4 KernelIdeal.cfg0.N j := by
  rw [eq_ix2 j]
  exact (Reference.array3 m' c (j 0) (j 1)).trans ((entry_congr h0 h1 h2 h3 _ _).trans (Kernel.array4 m c H (j 0) (j 1)).symm)

theorem second_eq (c : Dev KernelIdeal.nD)
    (h0 : m' ((c : Thread ReferenceIdeal.nD ReferenceIdeal.τ).loc ReferenceIdeal.main_arg0) = m ((c : Thread KernelIdeal.nD KernelIdeal.τ).loc KernelIdeal.main_arg0))
    (j : KernelIdeal.S1024x2048.Idx) :
    (ReferenceIdeal.Gen.dats m' 0 c).arrAt 4 ReferenceIdeal.cfg0.N j = (KernelIdeal.Hand.dats m 0 c).arrAt 5 KernelIdeal.cfg0.N j := by
  rw [eq_ix2 j]
  exact (Reference.array4 m' c (j 0) (j 1)).trans ((congrFun (congrArg codeOf (row_congr h0 _)) _).trans (Kernel.array5 m c (j 0) (j 1)).symm)

theorem third_eq (c : Dev KernelIdeal.nD)
    (h0 : m' ((c : Thread ReferenceIdeal.nD ReferenceIdeal.τ).loc ReferenceIdeal.main_arg0) = m ((c : Thread KernelIdeal.nD KernelIdeal.τ).loc KernelIdeal.main_arg0))
    (j : KernelIdeal.S4x1x256.Idx) :
    (ReferenceIdeal.Gen.dats m' 0 c).arrAt 5 ReferenceIdeal.cfg0.N j = (KernelIdeal.Hand.dats m 0 c).arrAt 6 KernelIdeal.cfg0.N j := by
  have a0 : (j 0).val < 4 := (j 0).isLt
  have a2 : (j 2).val < 256 := (j 2).isLt
  exact (Reference.array5 m' c j ⟨256 * (j 0).val + (j 2).val, by omega⟩ rfl).trans
    ((congrArg scaleOf (row_congr h0 _)).trans (Kernel.array6 m c j ⟨256 * (j 0).val + (j 2).val, by omega⟩ rfl).symm)

end Cert.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Bits.Frame
public import proofs.«01_k».proof.Proof.Value.Places
public import proofs.«01_k».proof.Proof.Value.Equal

@[expose] public section

open Idealize.ShloMosaic Idealize.SL.Sem

/-- The kernel over the reals runs, keeps its arguments and leaves every semaphore at zero. -/
theorem Cert.Proof.kernel_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2.2.2, h.2⟩) (Cert.Hand.Kernel.run_named m g)

/-- The kernel's first three results are the reference's, for weights whose two places in each group of four rise. -/
theorem Cert.Proof.value : Cert.algebraic_KernelIdeal_ReferenceIdeal_pre_two_of_four
    (hKernelIdeal := Cert.KernelIdeal.Gen.facts) (hReferenceIdeal := Cert.ReferenceIdeal.Gen.facts) (hPre_two_of_four := Cert.Hand.pre_facts) := by
  intro m g m' g' hp he
  refine ⟨fun c => (Cert.KernelIdeal.Hand.dats m 0 c).arrAt 4 Cert.KernelIdeal.cfg0.N,
    fun c => (Cert.KernelIdeal.Hand.dats m 0 c).arrAt 5 Cert.KernelIdeal.cfg0.N,
    fun c => (Cert.KernelIdeal.Hand.dats m 0 c).arrAt 6 Cert.KernelIdeal.cfg0.N, ?_, ?_⟩
  · exact (θ_run Cert.KernelIdeal.defs _ _).mono (fun _ h => h.1) (Cert.Hand.Kernel.run_named m g)
  · refine (θ_run Cert.ReferenceIdeal.defs _ _).mono (fun r h c => ?_) (Cert.ReferenceIdeal.Value.run_blocks m' g')
    obtain ⟨e0, e1, e2, ha⟩ := h c
    obtain ⟨h0, h1, h2, h3⟩ := he c
    have H := Cert.Hand.rising_of _ _ _ _ (hp c)
    exact ⟨e0.trans (funext fun j => Cert.Hand.first_eq m m' c H h0 h1 h2 h3 j),
      e1.trans (funext fun j => Cert.Hand.second_eq m m' c h0 j),
      e2.trans (funext fun j => Cert.Hand.third_eq m m' c h0 j), ha⟩

theorem Cert.Proof.claim : Cert.Claim :=
  ⟨Cert.Kernel.Gen.facts, Cert.KernelIdeal.Gen.facts, Cert.ReferenceIdeal.Gen.facts, Cert.Hand.pre_facts,
    fun m ρ _ => Cert.Kernel.Gen.frame m ρ, fun m ρ _ => Cert.Proof.kernel_frame m ρ, fun m ρ _ => Cert.Proof.kernel_frame m ρ,
    fun m ρ _ => Cert.ReferenceIdeal.Gen.frame m ρ, fun m ρ _ => Cert.ReferenceIdeal.Gen.frame m ρ, trivial, Cert.Proof.value⟩

end
